-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_KernelIdeal_nonzero_temperature [hPre_nonzero_temperature : Cert.Pre_nonzero_temperature.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero_temperature.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_ReferenceIdeal_nonzero_temperature [hPre_nonzero_temperature : Cert.Pre_nonzero_temperature.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero_temperature.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_nonzero_temperature [hKernelIdeal : Cert.KernelIdeal.Facts] [hPre_nonzero_temperature : Cert.Pre_nonzero_temperature.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero_temperature m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_nonzero_temperature [hReferenceIdeal : Cert.ReferenceIdeal.Facts] [hPre_nonzero_temperature : Cert.Pre_nonzero_temperature.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero_temperature m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_KernelIdeal_ReferenceIdeal_on_soft_everywhere_pre_nonzero_temperature [hKernelIdeal : Cert.KernelIdeal.Facts] [hReferenceIdeal : Cert.ReferenceIdeal.Facts] [hPre_nonzero_temperature : Cert.Pre_nonzero_temperature.Facts] [hOn_soft_everywhere : Cert.On_soft_everywhere.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero_temperature m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2048, 8, 1]⟩ : Shape).Idx, (Cert.On_soft_everywhere.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v7) i = v0 c i)
          ∧ (∀ i : (⟨3, ![2048, 8, 1]⟩ : Shape).Idx, (Cert.On_soft_everywhere.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.KernelIdeal.nD Cert.KernelIdeal.τ).loc Cert.KernelIdeal.main_v9) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2048, 8, 1]⟩ : Shape).Idx, (Cert.On_soft_everywhere.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v48) i = v0 c i)
          ∧ (∀ i : (⟨3, ![2048, 8, 1]⟩ : Shape).Idx, (Cert.On_soft_everywhere.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.ReferenceIdeal.nD Cert.ReferenceIdeal.τ).loc Cert.ReferenceIdeal.main_v49) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_arguments : Cert.Pre_finite_arguments.Facts) (hPre_nonzero_temperature : Cert.Pre_nonzero_temperature.Facts) (hOn_soft_everywhere : Cert.On_soft_everywhere.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_KernelIdeal_pre_nonzero_temperature (hKernelIdeal := hKernelIdeal) (hPre_nonzero_temperature := hPre_nonzero_temperature)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_ReferenceIdeal_pre_nonzero_temperature (hReferenceIdeal := hReferenceIdeal) (hPre_nonzero_temperature := hPre_nonzero_temperature)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ algebraic_KernelIdeal_ReferenceIdeal_on_soft_everywhere_pre_nonzero_temperature (hKernelIdeal := hKernelIdeal) (hReferenceIdeal := hReferenceIdeal) (hPre_nonzero_temperature := hPre_nonzero_temperature) (hOn_soft_everywhere := hOn_soft_everywhere)
-- ==== On_soft_everywhere.lean ====
abbrev S2048x8x1024 : Shape := ⟨3, ![2048, 8, 1024]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩
abbrev S2048x8x1 : Shape := ⟨3, ![2048, 8, 1]⟩

class Facts : Prop where
  bcast_S_S2048x8x1 : S_.BroadcastsInDim S2048x8x1 (![] : Fin 0 → Fin S2048x8x1.rank)

variable [Facts]

def fn {F : FTy → Type} [FloatOps F] (main_arg0 : FVec F S2048x8x1024 .f32) (main_arg1 : FVec F S1024x512 .f32) (main_arg2 : FVec F S512 .f32) (main_arg3 : FVec F S512x512 .f32) (main_arg4 : FVec F S512 .f32) (main_arg5 : FVec F S512x1 .f32) (main_arg6 : FVec F S1 .f32) (main_arg7 : FVec F S_ .f32) : IVec S2048x8x1 1 × IVec S2048x8x1 1 :=
  let main_c : IVec S_ 1 := constantI S_ 1 1#1
  let main_v0 : IVec S2048x8x1 1 := broadcastInDim S2048x8x1 ![] bcast_S_S2048x8x1 main_c
  let main_c_0 : IVec S_ 1 := constantI S_ 1 0#1
  let main_v1 : IVec S2048x8x1 1 := broadcastInDim S2048x8x1 ![] bcast_S_S2048x8x1 main_c_0
  (main_v0, main_v1)
-- ==== Pre_finite_arguments.lean ====
abbrev S2048x8x1024 : Shape := ⟨3, ![2048, 8, 1024]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S2048x8x1024 : S_.BroadcastsInDim S2048x8x1024 (![] : Fin 0 → Fin S2048x8x1024.rank)
  bcast_S_S1024x512 : S_.BroadcastsInDim S1024x512 (![] : Fin 0 → Fin S1024x512.rank)
  bcast_S_S512 : S_.BroadcastsInDim S512 (![] : Fin 0 → Fin S512.rank)
  bcast_S_S512x512 : S_.BroadcastsInDim S512x512 (![] : Fin 0 → Fin S512x512.rank)
  bcast_S_S512x1 : S_.BroadcastsInDim S512x1 (![] : Fin 0 → Fin S512x1.rank)
  bcast_S_S1 : S_.BroadcastsInDim S1 (![] : Fin 0 → Fin S1.rank)

variable [Facts]

def fn_part1 {F : FTy → Type} [FloatOps F] (main_arg6 : FVec F S1 .f32) (main_arg7 : FVec F S_ .f32) (main_v2 : IVec S2048x8x1024 1) (main_v5 : IVec S1024x512 1) (main_v8 : IVec S512 1) (main_v11 : IVec S512x512 1) (main_v14 : IVec S512 1) (main_v17 : IVec S512x1 1) : IVec S2048x8x1024 1 × IVec S1024x512 1 × IVec S512 1 × IVec S512x512 1 × IVec S512 1 × IVec S512x1 1 × IVec S1 1 × IVec S_ 1 :=
  let main_v18 : FVec F S1 .f32 := Host.absf main_arg6
  let main_cst_5 : FVec F S_ .f32 := constant S_ .f32 0x7F800000#32
  let main_v19 : FVec F S1 .f32 := broadcastInDim S1 ![] bcast_S_S1 main_cst_5
  let main_v20 : IVec S1 1 := cmpf .olt main_v18 main_v19
  let main_cst_6 : FVec F S_ .f32 := constant S_ .f32 0x00000000#32
  let main_v21 : IVec S_ 1 := cmpf .une main_arg7 main_cst_6
  (main_v2, main_v5, main_v8, main_v11, main_v14, main_v17, main_v20, main_v21)

def fn {F : FTy → Type} [FloatOps F] (main_arg0 : FVec F S2048x8x1024 .f32) (main_arg1 : FVec F S1024x512 .f32) (main_arg2 : FVec F S512 .f32) (main_arg3 : FVec F S512x512 .f32) (main_arg4 : FVec F S512 .f32) (main_arg5 : FVec F S512x1 .f32) (main_arg6 : FVec F S1 .f32) (main_arg7 : FVec F S_ .f32) : IVec S2048x8x1024 1 × IVec S1024x512 1 × IVec S512 1 × IVec S512x512 1 × IVec S512 1 × IVec S512x1 1 × IVec S1 1 × IVec S_ 1 :=
  let main_v0 : FVec F S2048x8x1024 .f32 := Host.absf main_arg0
  let main_cst : FVec F S_ .f32 := constant S_ .f32 0x7F800000#32
  let main_v1 : FVec F S2048x8x1024 .f32 := broadcastInDim S2048x8x1024 ![] bcast_S_S2048x8x1024 main_cst
  let main_v2 : IVec S2048x8x1024 1 := cmpf .olt main_v0 main_v1
  let main_v3 : FVec F S1024x512 .f32 := Host.absf main_arg1
  let main_cst_0 : FVec F S_ .f32 := constant S_ .f32 0x7F800000#32
  let main_v4 : FVec F S1024x512 .f32 := broadcastInDim S1024x512 ![] bcast_S_S1024x512 main_cst_0
  let main_v5 : IVec S1024x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512x1 .f32 := Host.absf main_arg5
  let main_cst_4 : FVec F S_ .f32 := constant S_ .f32 0x7F800000#32
  let main_v16 : FVec F S512x1 .f32 := broadcastInDim S512x1 ![] bcast_S_S512x1 main_cst_4
  let main_v17 : IVec S512x1 1 := cmpf .olt main_v15 main_v16
  fn_part1 (F := F) main_arg6 main_arg7 main_v2 main_v5 main_v8 main_v11 main_v14 main_v17
-- ==== Pre_nonzero_temperature.lean ====
abbrev S2048x8x1024 : Shape := ⟨3, ![2048, 8, 1024]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where

variable [Facts]

def fn {F : FTy → Type} [FloatOps F] (main_arg0 : FVec F S2048x8x1024 .f32) (main_arg1 : FVec F S1024x512 .f32) (main_arg2 : FVec F S512 .f32) (main_arg3 : FVec F S512x512 .f32) (main_arg4 : FVec F S512 .f32) (main_arg5 : FVec F S512x1 .f32) (main_arg6 : FVec F S1 .f32) (main_arg7 : FVec F S_ .f32) : IVec S_ 1 :=
  let main_cst : FVec F S_ .f32 := constant S_ .f32 0x00000000#32
  let main_v0 : IVec S_ 1 := cmpf .une main_arg7 main_cst
  main_v0
-- ==== Kernel.lean ====
abbrev S2048x8x1024 : Shape := ⟨3, ![2048, 8, 1024]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩
abbrev S16384x1024 : Shape := ⟨2, ![16384, 1024]⟩
abbrev S1x512 : Shape := ⟨2, ![1, 512]⟩
abbrev S1x1 : Shape := ⟨2, ![1, 1]⟩
abbrev S8x2048 : Shape := ⟨2, ![8, 2048]⟩
abbrev S2048x1024 : Shape := ⟨2, ![2048, 1024]⟩
abbrev S2048x512 : Shape := ⟨2, ![2048, 512]⟩
abbrev S2048x1 : Shape := ⟨2, ![2048, 1]⟩
abbrev S256x8 : Shape := ⟨2, ![256, 8]⟩
abbrev S8x256 : Shape := ⟨2, ![8, 256]⟩
abbrev S2048 : Shape := ⟨1, ![2048]⟩
abbrev S1x2048 : Shape := ⟨2, ![1, 2048]⟩
abbrev S2048x8 : Shape := ⟨2, ![2048, 8]⟩
abbrev S2048x8x1 : Shape := ⟨3, ![2048, 8, 1]⟩

abbrev nBuf : Space → Nat
  | .hbm => 19
  | .vmem => 12
  | .smem => 0
  | _ => 0

abbrev bufTy : (tb : Table) → Fin (tcTables nBuf tb) → BufTy
  | .hbm, ⟨0, _⟩ => ⟨S2048x8x1024, .f32⟩
  | .hbm, ⟨1, _⟩ => ⟨S1024x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S_, .f32⟩
  | .hbm, ⟨8, _⟩ => ⟨S16384x1024, .f32⟩
  | .hbm, ⟨9, _⟩ => ⟨S1x512, .f32⟩
  | .hbm, ⟨10, _⟩ => ⟨S1x512, .f32⟩
  | .hbm, ⟨11, _⟩ => ⟨S1x1, .f32⟩
  | .hbm, ⟨12, _⟩ => ⟨S1x1, .f32⟩
  | .hbm, ⟨13, _⟩ => ⟨S8x2048, .f32⟩
  | .hbm, ⟨14, _⟩ => ⟨S8x2048, .f32⟩
  | .hbm, ⟨15, _⟩ => ⟨S2048x8, .f32⟩
  | .hbm, ⟨16, _⟩ => ⟨S2048x8x1, .f32⟩
  | .hbm, ⟨17, _⟩ => ⟨S2048x8, .f32⟩
  | .hbm, ⟨18, _⟩ => ⟨S2048x8x1, .f32⟩
  | .local _ .vmem, ⟨0, _⟩ => ⟨S2048x1024, .f32⟩
  | .local _ .vmem, ⟨1, _⟩ => ⟨S2048x1024, .f32⟩
  | .local _ .vmem, ⟨2, _⟩ => ⟨S1024x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x1, .f32⟩
  | .local _ .vmem, ⟨7, _⟩ => ⟨S1x1, .f32⟩
  | .local _ .vmem, ⟨8, _⟩ => ⟨S1x1, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | _, _ => ⟨S2048x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_15 : Index := 0#32
  let arg0 : BitVec 32 := BitVec.ofNat 32 (i 0).val
  let c256_i32 : BitVec 32 := 256#32
  let v22 : BitVec 32 := Scalar.muli arg0 c256_i32
  let v23 : Index := Scalar.indexCast v22
  ![0, v23.toNat]
def k0_cond1 (i : grid0.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32 : BitVec 32 := 0#32
  let v29 : BitVec 1 := Scalar.cmpi .ne v28 c0_i32
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S2048x8x1024 : Shape := ⟨3, ![2048, 8, 1024]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩
abbrev S2048x8x512 : Shape := ⟨3, ![2048, 8, 512]⟩
abbrev S1x1x512 : Shape := ⟨3, ![1, 1, 512]⟩
abbrev S2048x8x1 : Shape := ⟨3, ![2048, 8, 1]⟩
abbrev S1x1x1 : Shape := ⟨3, ![1, 1, 1]⟩
abbrev S2048x1 : Shape := ⟨2, ![2048, 1]⟩
abbrev S2048x1x1 : Shape := ⟨3, ![2048, 1, 1]⟩
abbrev S2048x8 : Shape := ⟨2, ![2048, 8]⟩
abbrev S2048 : Shape := ⟨1, ![2048]⟩
abbrev S2048x2 : Shape := ⟨2, ![2048, 2]⟩

abbrev nBuf : Space → Nat
  | .hbm => 75
  | .vmem => 0
  | .smem => 0
  | _ => 0

abbrev bufTy : (tb : Table) → Fin (tcTables nBuf tb) → BufTy
  | .hbm, ⟨0, _⟩ => ⟨S2048x8x1024, .f32⟩
  | .hbm, ⟨1, _⟩ => ⟨S1024x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S_, .f32⟩
  | .hbm, ⟨8, _⟩ => ⟨S2048x8x512, .f32⟩
  | .hbm, ⟨9, _⟩ => ⟨S1x1x512, .f32⟩
  | .hbm, ⟨10, _⟩ => ⟨S2048x8x512, .f32⟩
  | .hbm, ⟨11, _⟩ => ⟨S2048x8x512, .f32⟩
  | .hbm, ⟨12, _⟩ => ⟨S_, .f32⟩
  | .hbm, ⟨13, _⟩ => ⟨S2048x8x512, .f32⟩
  | .hbm, ⟨14, _⟩ => ⟨S2048x8x512, .f32⟩
  | .hbm, ⟨15, _⟩ => ⟨S2048x8x512, .f32⟩
  | .hbm, ⟨16, _⟩ => ⟨S1x1x512, .f32⟩
  | .hbm, ⟨17, _⟩ => ⟨S2048x8x512, .f32⟩
  | .hbm, ⟨18, _⟩ => ⟨S2048x8x512, .f32⟩
  | .hbm, ⟨19, _⟩ => ⟨S_, .f32⟩
  | .hbm, ⟨20, _⟩ => ⟨S2048x8x512, .f32⟩
  | .hbm, ⟨21, _⟩ => ⟨S2048x8x512, .f32⟩
  | .hbm, ⟨22, _⟩ => ⟨S2048x8x1, .f32⟩
  | .hbm, ⟨23, _⟩ => ⟨S1x1x1, .f32⟩
  | .hbm, ⟨24, _⟩ => ⟨S2048x8x1, .f32⟩
  | .hbm, ⟨25, _⟩ => ⟨S2048x8x1, .f32⟩
  | .hbm, ⟨26, _⟩ => ⟨S2048x8x1, .f32⟩
  | .hbm, ⟨27, _⟩ => ⟨S2048x8x1, .f32⟩
  | .hbm, ⟨28, _⟩ => ⟨S_, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1x1, .f32⟩
  | .hbm, ⟨34, _⟩ => ⟨S2048x8x1, .f32⟩
  | .hbm, ⟨35, _⟩ => ⟨S2048x8x1, .f32⟩
  | .hbm, ⟨36, _⟩ => ⟨S2048x8x1, .f32⟩
  | .hbm, ⟨37, _⟩ => ⟨S_, .f32⟩
  | .hbm, ⟨38, _⟩ => ⟨S2048x1, .f32⟩
  | .hbm, ⟨39, _⟩ => ⟨S2048x1x1, .f32⟩
  | .hbm, ⟨40, _⟩ => ⟨S2048x8x1, .f32⟩
  | .hbm, ⟨41, _⟩ => ⟨S2048x8x1, .f32⟩
  | .hbm, ⟨42, _⟩ => ⟨S2048x8, .f32⟩
  | .hbm, ⟨43, _⟩ => ⟨S2048x8, .i32⟩
  | .hbm, ⟨44, _⟩ => ⟨S_, .f32⟩
  | .hbm, ⟨45, _⟩ => ⟨S_, .i32⟩
  | .hbm, ⟨46, _⟩ => ⟨S2048, .f32⟩
  | .hbm, ⟨47, _⟩ => ⟨S2048, .i32⟩
  | .hbm, ⟨48, _⟩ => ⟨S_, .f32⟩
  | .hbm, ⟨49, _⟩ => ⟨S2048x8, .f32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S2048x1, .i32⟩
  | .hbm, ⟨66, _⟩ => ⟨S2048x1, .i32⟩
  | .hbm, ⟨67, _⟩ => ⟨S2048x2, .i32⟩
  | .hbm, ⟨68, _⟩ => ⟨S_, .f32⟩
  | .hbm, ⟨69, _⟩ => ⟨S2048, .f32⟩
  | .hbm, ⟨70, _⟩ => ⟨S2048x8, .f32⟩
  | .hbm, ⟨71, _⟩ => ⟨S2048x8, .f32⟩
  | .hbm, ⟨72, _⟩ => ⟨S2048x8, .f32⟩
  | .hbm, ⟨73, _⟩ => ⟨S2048x8x1, .f32⟩
  | .hbm, ⟨74, _⟩ => ⟨S2048x8x1, .f32⟩
  | _, _ => ⟨S2048x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call2_v0 : Ref sig .tc := ⟨.hbm, 43, rfl⟩
abbrev main_call2_cst : Ref sig .tc := ⟨.hbm, 44, rfl⟩
abbrev main_call2_c : Ref sig .tc := ⟨.hbm, 45, rfl⟩
abbrev main_call2_v1_0 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_c : Ref sig .tc := ⟨.hbm, 51, rfl⟩
abbrev main_v31 : Ref sig .tc := ⟨.hbm, 52, rfl⟩
abbrev main_v32 : Ref sig .tc := ⟨.hbm, 53, rfl⟩
abbrev main_c_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_4 : Ref sig .tc := ⟨.hbm, 58, rfl⟩
abbrev main_v36 : Ref sig .tc := ⟨.hbm, 59, rfl⟩
abbrev main_v37 : Ref sig .tc := ⟨.hbm, 60, rfl⟩
abbrev main_c_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.WritesUnit
public import Idealize.ShloMosaic.Lib.WholeRead
public import Idealize.ShloMosaic.Lib.VecWindow
public import Idealize.ShloMosaic.Lib.Tactic
public import Idealize.ShloMosaic.Lib.WordCmp

/-! # What one run of the gate kernel's body computes

The body at grid point `t` turns its block of 256 tokens (2048 rows of the activations) into an 8 × 256 block of logits and
stores it at columns `256 t … 256 t + 255` of an 8 × 2048 scratch array. At the last point it also reads the whole scratch
array and fills the two result arrays from it. The two theorems below say so, one for each of these cases. -/

@[expose] public section

set_option maxRecDepth 16384

noncomputable section

namespace Cert.KernelIdeal.Gate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch array `d` after the block `p` is stored at grid point `i`: `p` on the point's 256 columns, `d` elsewhere. -/
def stored (i : grid0.Coords) (p : FVec F S8x256 .f32) (d : Vec F S8x2048 .f32) : Vec F S8x2048 .f32 :=
  VecWindow.put (s := S8x2048) d (k0_off1 i) S8x256.size p

/-- Reading a whole array after the one store of a block is `stored`. -/
theorem read_stored (mm : Memref sig .tc .vmem S8x2048 .f32) (hm : mm.IsWhole) (i : grid0.Coords) (p q : FVec F S8x256 .f32)
    (d : Vec F S8x2048 .f32) (h : p = q) :
    mm.view.read (Elt F) (mm.view.writes (Elt F) (hm.unread d)
        [(⟨Rect.unit (s := S8x2048) (k0_off1 i) S8x256.size (k0_off1_inb i), p⟩ : View.Piece (Elt F) S8x2048 .f32)])
      = stored i q d := by
  subst h
  rw [View.read_writes_cons_put mm.view (hm.unread d) (k0_off1_inb i) p [] rfl, View.writes_nil, hm.read_unread]
  rfl

/-- Loading all of a whole array that holds `x` gives `x`. -/
theorem load_all {s : Shape} (mm : Memref sig .tc .vmem s .f32) (hm : mm.IsWhole) (x : Vec F s .f32) {off : Fin s.rank → ℕ}
    (inb : ∀ a, off a + s.size a ≤ s.size a) :
    mm.view.readAt (Elt F) (Rect.unit off s.size inb).toLoadRect (hm.unread x) = x :=
  (View.readAt_full mm.view _ inb).trans (hm.read_unread x)

/-- Equal operands give equal logits blocks. -/
theorem pay1_congr {a a' : Vec F S2048x1024 .f32} {b b' : Vec F S1024x512 .f32} {e e' : Vec F S1x512 .f32}
    {f f' : Vec F S512x512 .f32} {g g' : Vec F S1x512 .f32} {h h' : Vec F S512x1 .f32}
    (ha : a = a') (hb : b = b') (he : e = e') (hf : f = f') (hg : g = g') (hh : h = h') :
    k0_pay1 a b e f g h = k0_pay1 a' b' e' f' g' h' := by
  subst ha hb he hf hg hh; rfl

/-- Equal operands give equal first results. -/
theorem pay2_congr {a a' b b' : Vec F S1x1 .f32} {d d' : Vec F S8x2048 .f32} (ha : a = a') (hb : b = b') (hd : d = d') :
    k0_pay2 a b d = k0_pay2 a' b' d' := by
  subst ha hb hd; rfl

/-- Equal operands give equal second results. -/
theorem pay3_congr {a a' b b' : Vec F S1x1 .f32} {d d' : Vec F S8x2048 .f32} (ha : a = a') (hb : b = b') (hd : d = d') :
    k0_pay3 a b d = k0_pay3 a' b' d' := by
  subst ha hb hd; rfl

set_option maxHeartbeats 1000000 in
/-- The body at a point that is not the last: the results' buffers keep what they held, and the scratch array holds the
point's block of logits on the point's columns and what it held elsewhere. -/
theorem run_point (c : Dev nD) (i : grid0.Coords)
    (arg1 : Memref sig .tc .vmem S2048x1024 .f32) (harg1 : arg1.IsWhole) (arg2 : Memref sig .tc .vmem S1024x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S8x2048 .f32) (harg9 : arg9.IsWhole) (arg10 : Memref sig .tc .vmem S8x2048 .f32) (harg10 : arg10.IsWhole)
    (arg11 : Memref sig .tc .vmem S8x2048 .f32) (harg11 : arg11.IsWhole)
    (hc : ¬ k0_cond1 i = 1#1)
    (x0 : Vec F S2048x1024 .f32) (x1 : Vec F S1024x512 .f32) (x2 : Vec F S1x512 .f32) (x3 : Vec F S512x512 .f32)
    (x4 : Vec F S1x512 .f32) (x5 : Vec F S512x1 .f32) (x6 : Vec F S1x1 .f32) (x7 : Vec F S1x1 .f32) (d8 d9 d : Vec F S8x2048 .f32)
    (E : Set ℕ) (K : PUnit → sProp 𝕄) :
    iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare d8
            ∗ owns (c : Thread nD τ) arg10 fullShare d9
            ∗ owns (c : Thread nD τ) arg11 fullShare d
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare d8
            ∗ owns (c : Thread nD τ) arg10 fullShare d9
            ∗ owns (c : Thread nD τ) arg11 fullShare (stored i (k0_pay1 x0 x1 x2 x3 x4 x5) d)) -∗ K ⟨⟩))
      ⊢ wp frame (wpE (defs₀ (F := F)) Variants.none c none) E
          (cc0__gate_kernel i arg1 harg1 arg2 harg2 arg3 harg3 arg4 harg4 arg5 harg5 arg6 harg6 arg7 harg7 arg8 harg8 arg9 harg9 arg10 harg10 arg11 harg11) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  iexists _; isplitr; swap; · iexact H10
  ipureintro
  exact read_stored arg11 harg11 i _ _ d (pay1_congr (load_all arg1 harg1 x0 _) (load_all arg2 harg2 x1 _) (load_all arg3 harg3 x2 _) (load_all arg4 harg4 x3 _)
    (load_all arg5 harg5 x4 _) (load_all arg6 harg6 x5 _))

set_option maxHeartbeats 1000000 in
/-- The body at the last point: the scratch array takes the point's block, and the results' buffers are then filled from the
whole scratch array. -/
theorem run_last (c : Dev nD) (i : grid0.Coords)
    (arg1 : Memref sig .tc .vmem S2048x1024 .f32) (harg1 : arg1.IsWhole) (arg2 : Memref sig .tc .vmem S1024x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S8x2048 .f32) (harg9 : arg9.IsWhole) (arg10 : Memref sig .tc .vmem S8x2048 .f32) (harg10 : arg10.IsWhole)
    (arg11 : Memref sig .tc .vmem S8x2048 .f32) (harg11 : arg11.IsWhole)
    (hc : k0_cond1 i = 1#1)
    (x0 : Vec F S2048x1024 .f32) (x1 : Vec F S1024x512 .f32) (x2 : Vec F S1x512 .f32) (x3 : Vec F S512x512 .f32)
    (x4 : Vec F S1x512 .f32) (x5 : Vec F S512x1 .f32) (x6 : Vec F S1x1 .f32) (x7 : Vec F S1x1 .f32) (d8 d9 d : Vec F S8x2048 .f32)
    (E : Set ℕ) (K : PUnit → sProp 𝕄) :
    iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare d8
            ∗ owns (c : Thread nD τ) arg10 fullShare d9
            ∗ owns (c : Thread nD τ) arg11 fullShare d
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (k0_pay2 x6 x7 (stored i (k0_pay1 x0 x1 x2 x3 x4 x5) d))
            ∗ owns (c : Thread nD τ) arg10 fullShare (k0_pay3 x6 x7 (stored i (k0_pay1 x0 x1 x2 x3 x4 x5) d))
            ∗ owns (c : Thread nD τ) arg11 fullShare (stored i (k0_pay1 x0 x1 x2 x3 x4 x5) d)) -∗ K ⟨⟩))
      ⊢ wp frame (wpE (defs₀ (F := F)) Variants.none c none) E
          (cc0__gate_kernel i arg1 harg1 arg2 harg2 arg3 harg3 arg4 harg4 arg5 harg5 arg6 harg6 arg7 harg7 arg8 harg8 arg9 harg9 arg10 harg10 arg11 harg11) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    exact (View.read_writes_full _ _ _ _ _).trans (pay2_congr (load_all arg7 harg7 x6 _) (load_all arg8 harg8 x7 _)
      ((View.readAt_full _ _ _).trans (read_stored arg11 harg11 i _ _ d (pay1_congr (load_all arg1 harg1 x0 _) (load_all arg2 harg2 x1 _) (load_all arg3 harg3 x2 _) (load_all arg4 harg4 x3 _)
    (load_all arg5 harg5 x4 _) (load_all arg6 harg6 x5 _)))))
  isplitl [H9]
  · iexists _; isplitr; swap; · iexact H9
    ipureintro
    exact (View.read_writes_full _ _ _ _ _).trans (pay3_congr (load_all arg7 harg7 x6 _) (load_all arg8 harg8 x7 _)
      ((View.readAt_full _ _ _).trans (read_stored arg11 harg11 i _ _ d (pay1_congr (load_all arg1 harg1 x0 _) (load_all arg2 harg2 x1 _) (load_all arg3 harg3 x2 _) (load_all arg4 harg4 x3 _)
    (load_all arg5 harg5 x4 _) (load_all arg6 harg6 x5 _)))))
  iexists _; isplitr; swap; · iexact H10
  ipureintro
  exact read_stored arg11 harg11 i _ _ d (pay1_congr (load_all arg1 harg1 x0 _) (load_all arg2 harg2 x1 _) (load_all arg3 harg3 x2 _) (load_all arg4 harg4 x3 _)
    (load_all arg5 harg5 x4 _) (load_all arg6 harg6 x5 _))

end Cert.KernelIdeal.Gate

end
-- ==== Proof.Run.lean ====
module

public import proofs.«01_k».proof.Proof.Body
public import Idealize.ShloMosaic.Lib.Pipeline.FrameSuffix
public import Idealize.ShloMosaic.Lib.Claim
public import Idealize.ShloMosaic.Lib.ValueIdxCore

/-! # The gate kernel's run

The eight grid points fill the scratch array with the logits, 256 columns at a time, and the last point fills the two
result arrays. This module carries that through the pipeline: the invariant says which columns of the scratch array are
filled before each point, and the launch theorem says what the memory holds when the kernel has run. -/

@[expose] public section

set_option maxRecDepth 16384

noncomputable section

namespace Cert.KernelIdeal.Gate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid points -/

/-- The grid point that handles column `q` of the scratch array. -/
def pointOf (q : Fin 2048) : Fin cfg0.N := ⟨q.val / 256, by rw [show cfg0.N = 8 from N_0]; omega⟩

theorem lt_eight (t : Fin cfg0.N) : t.val < 8 := lt_of_lt_of_eq t.isLt (show cfg0.N = 8 from N_0)

/-- The coordinate of a point is its number. -/
theorem coord_eq (t : Fin cfg0.N) : (grid0.coords t 0).val = t.val := by
  have h := lt_eight t
  have e : (grid0.coords t 0).val = t.val / 1 % 8 := Pipeline.Grid.coords_val t 0 (by decide) rfl
  omega

/-- The results are stored at the last point only. -/
theorem last_iff (t : Fin cfg0.N) : k0_cond1 (grid0.coords t) = 1#1 ↔ t.val % 8 = 7 := by
  have h := lt_eight t
  have e0 := coord_eq t
  simp only [k0_cond1, e0]
  word_cmp

/-- A point's block goes to columns `256 t` and on. -/
theorem offset_eq (t : Fin cfg0.N) : k0_off1 (grid0.coords t) = ![0, 256 * t.val] := by
  have h := lt_eight t
  have e0 := coord_eq t
  have hw : (BitVec.ofNat 32 t.val * 256#32).toNat = 256 * t.val := by
    rw [BitVec.toNat_mul, BitVec.toNat_ofNat, BitVec.toNat_ofNat]
    omega
  unfold k0_off1
  rw [e0]
  funext a
  match a with
  | 0 => rfl
  | 1 => exact hw

/-! ## What the scratch array holds -/

/-- The logits block of point `t`. -/
def block (c : Dev nD) (t : Fin cfg0.N) : FVec F S8x256 .f32 :=
  k0_pay1 (iblk m c 0 t) (iblk m c 1 t) (iblk m c 2 t) (iblk m c 3 t) (iblk m c 4 t) (iblk m c 5 t)

/-- All the logits: column `q` comes from column `q mod 256` of the block of point `q / 256`. -/
def logits (c : Dev nD) : Vec F S8x2048 .f32 := fun j =>
  block m c (pointOf (j 1)) (ValueIdx.ix2 (j 0) ⟨(j 1).val % 256, Nat.mod_lt _ (by decide)⟩)

/-- If the columns before point `t`'s are filled, they and point `t`'s are after its store. -/
theorem stored_filled (c : Dev nD) (t : Fin cfg0.N) (d : Vec F S8x2048 .f32)
    (hd : ∀ j : S8x2048.Idx, (j 1).val < 256 * t.val → d j = logits m c j) (j : S8x2048.Idx)
    (hj : (j 1).val < 256 * (t.val + 1)) : stored (grid0.coords t) (block m c t) d j = logits m c j := by
  have h8 := lt_eight t
  unfold stored VecWindow.put
  rw [offset_eq]
  by_cases h : (j 1).val < 256 * t.val
  · rw [dif_neg (fun hh => by have := (hh 1).1; simp at this; omega)]
    exact hd j h
  · have hp : pointOf (j 1) = t := Fin.ext (by show (j 1).val / 256 = t.val; omega)
    have h0 : (j 0).val < 8 := (j 0).isLt
    rw [dif_pos (by
      intro a
      match a with
      | 0 => exact ⟨Nat.zero_le _, by show (j 0).val < 0 + 8; omega⟩
      | 1 => exact ⟨by show 256 * t.val ≤ (j 1).val; omega, by show (j 1).val < 256 * t.val + 256; omega⟩)]
    unfold logits
    rw [hp]
    refine congrArg (block m c t) (funext fun a => Fin.ext ?_)
    match a with
    | 0 => show (j 0).val - 0 = (j 0).val; omega
    | 1 => show (j 1).val - 256 * t.val = (j 1).val % 256; omega

/-- After the last point's store every column is filled. -/
theorem stored_all (c : Dev nD) (t : Fin cfg0.N) (ht : t.val % 8 = 7) (d : Vec F S8x2048 .f32)
    (hd : ∀ j : S8x2048.Idx, (j 1).val < 256 * t.val → d j = logits m c j) :
    stored (grid0.coords t) (block m c t) d = logits m c := by
  have h8 := lt_eight t
  funext j
  have hj : (j 1).val < 2048 := (j 1).isLt
  exact stored_filled m c t d hd j (by omega)

/-! ## The pipeline's proof data -/

/-- The scratch array. -/
abbrev scratch : Memref sig .tc .vmem S8x2048 .f32 := Memref.whole cc0_scratch0

/-- What the kernel keeps between points: the scratch array with the columns of the earlier points filled. -/
def kept (c : Dev nD) (n : ℕ) : sProp 𝕄 :=
  iprop((∃ d, ⌜∀ j : S8x2048.Idx, (j 1).val < 256 * n → d j = logits m c j⌝ ∗ owns (c : Thread nD τ) scratch fullShare d)
    ∗ (∃ r, prngReg c r))

/-- The proof data: the arrays as the region finds them; each operand's buffer holds its block; the results' buffers are
filled from all the logits. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay2 (iblk m c 6 t) (iblk m c 7 t) (logits m c)
    | ⟨9, _⟩ => k0_pay3 (iblk m c 6 t) (iblk m c 7 t) (logits m c)
  Φ t := kept m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) :
    (dats m 0 c).after 8 t = k0_pay2 (iblk m c 6 t) (iblk m c 7 t) (logits m c) := by dsimp only [dats]
theorem after_9 (c : Dev nD) (t : Fin cfg0.N) :
    (dats m 0 c).after 9 t = k0_pay3 (iblk m c 6 t) (iblk m c 7 t) (logits m c) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body, point by point -/

/-- Window 0's buffer at point `t`. -/
abbrev buf0 (t : Fin cfg0.N) := win0_0.stage (cfg0.slots t 0)
/-- Window 1's buffer at point `t`. -/
abbrev buf1 (t : Fin cfg0.N) := win0_1.stage (cfg0.slots t 1)
/-- Window 2's buffer at point `t`. -/
abbrev buf2 (t : Fin cfg0.N) := win0_2.stage (cfg0.slots t 2)
/-- Window 3's buffer at point `t`. -/
abbrev buf3 (t : Fin cfg0.N) := win0_3.stage (cfg0.slots t 3)
/-- Window 4's buffer at point `t`. -/
abbrev buf4 (t : Fin cfg0.N) := win0_4.stage (cfg0.slots t 4)
/-- Window 5's buffer at point `t`. -/
abbrev buf5 (t : Fin cfg0.N) := win0_5.stage (cfg0.slots t 5)
/-- Window 6's buffer at point `t`. -/
abbrev buf6 (t : Fin cfg0.N) := win0_6.stage (cfg0.slots t 6)
/-- Window 7's buffer at point `t`. -/
abbrev buf7 (t : Fin cfg0.N) := win0_7.stage (cfg0.slots t 7)
/-- Window 8's buffer at point `t`. -/
abbrev buf8 (t : Fin cfg0.N) := win0_8.stage (cfg0.slots t 8)
/-- Window 9's buffer at point `t`. -/
abbrev buf9 (t : Fin cfg0.N) := win0_9.stage (cfg0.slots t 9)
theorem leaves_0 (c : Dev nD) (t : Fin cfg0.N) : (dats m 0 c).leavesExact 0 t
    = owns (c : Thread nD τ) (buf0 t) fullShare (iblk m c 0 t) := by
  unfold Dat.leavesExact
  rw [show cfg0.idle 0 (grid0.coords t) = false from rfl, after_0]
theorem leaves_1 (c : Dev nD) (t : Fin cfg0.N) : (dats m 0 c).leavesExact 1 t
    = owns (c : Thread nD τ) (buf1 t) fullShare (iblk m c 1 t) := by
  unfold Dat.leavesExact
  rw [show cfg0.idle 1 (grid0.coords t) = false from rfl, after_1]
theorem leaves_2 (c : Dev nD) (t : Fin cfg0.N) : (dats m 0 c).leavesExact 2 t
    = owns (c : Thread nD τ) (buf2 t) fullShare (iblk m c 2 t) := by
  unfold Dat.leavesExact
  rw [show cfg0.idle 2 (grid0.coords t) = false from rfl, after_2]
theorem leaves_3 (c : Dev nD) (t : Fin cfg0.N) : (dats m 0 c).leavesExact 3 t
    = owns (c : Thread nD τ) (buf3 t) fullShare (iblk m c 3 t) := by
  unfold Dat.leavesExact
  rw [show cfg0.idle 3 (grid0.coords t) = false from rfl, after_3]
theorem leaves_4 (c : Dev nD) (t : Fin cfg0.N) : (dats m 0 c).leavesExact 4 t
    = owns (c : Thread nD τ) (buf4 t) fullShare (iblk m c 4 t) := by
  unfold Dat.leavesExact
  rw [show cfg0.idle 4 (grid0.coords t) = false from rfl, after_4]
theorem leaves_5 (c : Dev nD) (t : Fin cfg0.N) : (dats m 0 c).leavesExact 5 t
    = owns (c : Thread nD τ) (buf5 t) fullShare (iblk m c 5 t) := by
  unfold Dat.leavesExact
  rw [show cfg0.idle 5 (grid0.coords t) = false from rfl, after_5]
theorem leaves_6 (c : Dev nD) (t : Fin cfg0.N) : (dats m 0 c).leavesExact 6 t
    = owns (c : Thread nD τ) (buf6 t) fullShare (iblk m c 6 t) := by
  unfold Dat.leavesExact
  rw [show cfg0.idle 6 (grid0.coords t) = false from rfl, after_6]
theorem leaves_7 (c : Dev nD) (t : Fin cfg0.N) : (dats m 0 c).leavesExact 7 t
    = owns (c : Thread nD τ) (buf7 t) fullShare (iblk m c 7 t) := by
  unfold Dat.leavesExact
  rw [show cfg0.idle 7 (grid0.coords t) = false from rfl, after_7]
theorem leaves_8_last (c : Dev nD) (t : Fin cfg0.N) (ht : t.val % 8 = 7) : (dats m 0 c).leavesExact 8 t
    = owns (c : Thread nD τ) (buf8 t) fullShare (k0_pay2 (iblk m c 6 t) (iblk m c 7 t) (logits m c)) := by
  have hi : cfg0.idle 8 (grid0.coords t) = false := by
    show (!(k0_cond1 (grid0.coords t) == 1#1)) = false
    rw [(last_iff t).mpr ht]; rfl
  unfold Dat.leavesExact
  rw [hi, after_8]
theorem leaves_8_early (c : Dev nD) (t : Fin cfg0.N) (ht : ¬ t.val % 8 = 7) : (dats m 0 c).leavesExact 8 t
    = iprop(∃ d, owns (c : Thread nD τ) (buf8 t) fullShare ((dats m 0 c).before 8 t d)) := by
  have hi : cfg0.idle 8 (grid0.coords t) = true := by
    show (!(k0_cond1 (grid0.coords t) == 1#1)) = true
    rw [Bool.not_eq_true', beq_eq_false_iff_ne]
    exact fun h => ht ((last_iff t).mp h)
  exact (dats m 0 c).leavesExact_idle 8 t hi (Bool.eq_false_iff.mpr fun h => ht ((flush0_8 t).mp h))
theorem leaves_9_last (c : Dev nD) (t : Fin cfg0.N) (ht : t.val % 8 = 7) : (dats m 0 c).leavesExact 9 t
    = owns (c : Thread nD τ) (buf9 t) fullShare (k0_pay3 (iblk m c 6 t) (iblk m c 7 t) (logits m c)) := by
  have hi : cfg0.idle 9 (grid0.coords t) = false := by
    show (!(k0_cond1 (grid0.coords t) == 1#1)) = false
    rw [(last_iff t).mpr ht]; rfl
  unfold Dat.leavesExact
  rw [hi, after_9]
theorem leaves_9_early (c : Dev nD) (t : Fin cfg0.N) (ht : ¬ t.val % 8 = 7) : (dats m 0 c).leavesExact 9 t
    = iprop(∃ d, owns (c : Thread nD τ) (buf9 t) fullShare ((dats m 0 c).before 9 t d)) := by
  have hi : cfg0.idle 9 (grid0.coords t) = true := by
    show (!(k0_cond1 (grid0.coords t) == 1#1)) = true
    rw [Bool.not_eq_true', beq_eq_false_iff_ne]
    exact fun h => ht ((last_iff t).mp h)
  exact (dats m 0 c).leavesExact_idle 9 t hi (Bool.eq_false_iff.mpr fun h => ht ((flush0_9 t).mp h))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The body at any point keeps the invariant and leaves the windows' buffers as the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = kept m c (t.val + 1) from rfl,
    show (dats m 0 c).owesAt () t.succ = (dats m 0 c).owesAt () t.castSucc from rfl,
    show (dats m 0 c).Φ t.castSucc = kept m c t.val from rfl]
  unfold kept
  simp only [before_0, before_1, before_2, before_3, before_4, before_5, before_6, before_7]
  rw [leaves_0, leaves_1, leaves_2, leaves_3, leaves_4, leaves_5, leaves_6, leaves_7]
  by_cases h0 : t.val % 8 = 7
  · rw [leaves_8_last m c t h0, leaves_9_last m c t h0]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_last c (grid0.coords t) _ _ _ _ _ _ _ _ _ _ _ _ _ _ _ _ _ _ _ _ _ _ ((last_iff t).mpr h0)
      (iblk m c 0 t) (iblk m c 1 t) (iblk m c 2 t) (iblk m c 3 t) (iblk m c 4 t) (iblk m c 5 t) (iblk m c 6 t) (iblk m c 7 t)
      ((dats m 0 c).before 8 t d8) ((dats m 0 c).before 9 t d9) d Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]
      · iexists _; isplitr; swap; · iexact HS
        ipureintro; exact fun j hj => stored_filled m c t d hd j hj
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    rw [show stored (grid0.coords t) (k0_pay1 (iblk m c 0 t) (iblk m c 1 t) (iblk m c 2 t) (iblk m c 3 t) (iblk m c 4 t)
      (iblk m c 5 t)) d = logits m c from stored_all m c t h0 d hd]
    isplitl [H8]; · iexact H8
    iexact H9
  · rw [leaves_8_early m c t h0, leaves_9_early m c t h0]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_point c (grid0.coords t) _ _ _ _ _ _ _ _ _ _ _ _ _ _ _ _ _ _ _ _ _ _ (fun h => h0 ((last_iff t).mp h))
      (iblk m c 0 t) (iblk m c 1 t) (iblk m c 2 t) (iblk m c 3 t) (iblk m c 4 t) (iblk m c 5 t) (iblk m c 6 t) (iblk m c 7 t)
      ((dats m 0 c).before 8 t d8) ((dats m 0 c).before 9 t d9) d Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]
      · iexists _; isplitr; swap; · iexact HS
        ipureintro; exact fun j hj => stored_filled m c t d hd j hj
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

/-- The pipeline calls the printed body. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The kernel's scratch buffer and generator register are what the invariant starts from and ends with. -/
theorem scoped_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- Before the first point nothing of the scratch array is known. -/
theorem kept_in (c : Dev nD) : (Pipeline.ΦA spec0 c : sProp 𝕄) ⊢ (dats m 0 c).Φ 0 := by
  rw [scoped_eq, show (dats m 0 c).Φ 0 = kept m c 0 from rfl]
  unfold kept
  iintro ⟨⟨%d, HS⟩, Hg⟩
  isplitl [HS]
  · iexists d; isplitr; swap; · iexact HS
    ipureintro; exact fun j hj => absurd hj (by omega)
  iexact Hg

/-- After the last point the scratch array is given back. -/
theorem kept_out (c : Dev nD) : (dats m 0 c).Φ (Fin.last cfg0.N) ⊢ (Pipeline.ΦA spec0 c : sProp 𝕄) := by
  rw [scoped_eq, show (dats m 0 c).Φ (Fin.last cfg0.N) = kept m c cfg0.N from rfl]
  unfold kept
  iintro ⟨⟨%d, %hd, HS⟩, Hg⟩
  isplitl [HS]
  · iexists d; iexact HS
  iexact Hg

set_option backward.isDefEq.respectTransparency.types false in
set_option maxHeartbeats 800000 in
/-- The launch: every execution ends with the arrays as the proof data says, the rest of the memory as the host lines leave
it, and every semaphore counter at zero. -/
theorem run_quiescent : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hin := kept_in m) (hout := kept_out m)
    (Q' := _) (hQ' := fun _ h => h)

/-- The launch without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments are unchanged and the counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.KernelIdeal.Gate

end
-- ==== Proof.Ref.lean ====
module

public import proofs.«01_k».proof.Defs
public import proofs.«01_k».proof.Proof.Gen.ReferenceIdeal
public import Idealize.ShloMosaic.Lib.StableHlo.Run
public import Idealize.ShloMosaic.Lib.Quiescent

/-! # What the reference computes

The reference is a straight line of array operations: three dense layers, a division by the temperature, a softmax over the
eight experts, the table with a one at each token's largest expert, and the straight-through sum of that table with the
softmax. Each part is a function here, and the run of the reference is shown to end with their values. -/

@[expose] public section

set_option maxRecDepth 4096

noncomputable section

namespace Cert.ReferenceIdeal.Gate

open Cert.ReferenceIdeal.Gen
open Idealize.ShloMosaic Idealize.ShloMosaic.TcCoe Idealize.ShloMosaic.StableHlo Idealize.SL.Sem

variable {F : FTy → Type} [FloatOps F]

/-! ## The parts -/

/-- A bias along the last axis of the hidden activations. -/
def biasHidden (b : FVec F S512 .f32) : FVec F S2048x8x512 .f32 :=
  broadcastInDim S2048x8x512 ![0, 1, 2] bcast_S1x1x512_S2048x8x512_0_1_2 (broadcastInDim S1x1x512 ![2] bcast_S512_S1x1x512_2 b)

/-- The larger of an activation and zero. -/
def relu (h : FVec F S2048x8x512 .f32) : FVec F S2048x8x512 .f32 :=
  maximumf h (broadcastInDim S2048x8x512 ![] bcast_S_S2048x8x512 (constant S_ .f32 0x00000000#32))

/-- The first layer. -/
def layer1 (x : FVec F S2048x8x1024 .f32) (W : FVec F S1024x512 .f32) (b : FVec F S512 .f32) : FVec F S2048x8x512 .f32 :=
  relu (addf (Host.dotGeneral dot_S2048x8x1024_S1024x512_S2048x8x512_2_0_01_1_n_n none x W) (biasHidden b))

/-- The second layer. -/
def layer2 (h : FVec F S2048x8x512 .f32) (W : FVec F S512x512 .f32) (b : FVec F S512 .f32) : FVec F S2048x8x512 .f32 :=
  relu (addf (Host.dotGeneral dot_S2048x8x512_S512x512_S2048x8x512_2_0_01_1_n_n none h W) (biasHidden b))

/-- The third layer: one logit per token and expert. -/
def layer3 (h : FVec F S2048x8x512 .f32) (W : FVec F S512x1 .f32) (b : FVec F S1 .f32) : FVec F S2048x8x1 .f32 :=
  addf (Host.dotGeneral dot_S2048x8x512_S512x1_S2048x8x1_2_0_01_1_n_n none h W)
    (broadcastInDim S2048x8x1 ![0, 1, 2] bcast_S1x1x1_S2048x8x1_0_1_2 (broadcastInDim S1x1x1 ![2] bcast_S1_S1x1x1_2 b))

/-- The logits over the temperature. -/
def scaled (x : FVec F S2048x8x1024 .f32) (W1 : FVec F S1024x512 .f32) (b1 : FVec F S512 .f32) (W2 : FVec F S512x512 .f32)
    (b2 : FVec F S512 .f32) (W3 : FVec F S512x1 .f32) (b3 : FVec F S1 .f32) (t : FVec F S_ .f32) : FVec F S2048x8x1 .f32 :=
  Host.divf (layer3 (layer2 (layer1 x W1 b1) W2 b2) W3 b3) (broadcastInDim S2048x8x1 ![] bcast_S_S2048x8x1 t)

/-- A value per token, for every expert. -/
def perToken (r : FVec F S2048x1 .f32) : FVec F S2048x8x1 .f32 :=
  broadcastInDim S2048x8x1 ![0, 1, 2] bcast_S2048x1x1_S2048x8x1_0_1_2 (broadcastInDim S2048x1x1 ![0, 2] bcast_S2048x1_S2048x1x1_0_2 r)

/-- Each token's largest entry. -/
def rowMax (y : FVec F S2048x8x1 .f32) : FVec F S2048x1 .f32 :=
  maximumf (broadcastInDim S2048x1 ![] bcast_S_S2048x1 (constant S_ .f32 0xFF800000#32))
    (Host.reduce FloatOps.maximumf y (constant S_ .f32 0xFF800000#32) reducesTo_S2048x8x1_S2048x1_d1 h_S_)

/-- The exponentials of the entries less their token's largest. -/
def exps (y : FVec F S2048x8x1 .f32) : FVec F S2048x8x1 .f32 := Host.exp (subf y (perToken (rowMax y)))

/-- The softmax over the experts. -/
def soft (y : FVec F S2048x8x1 .f32) : FVec F S2048x8x1 .f32 :=
  Host.divf (exps y) (perToken (Host.reduceAdd (exps y) (constant S_ .f32 0x00000000#32) reducesTo_S2048x8x1_S2048x1_d1 h_S_))

/-- The softmax as a table of tokens by experts. -/
def table (y : FVec F S2048x8x1 .f32) : FVec F S2048x8 .f32 := shapeCast S2048x8 (soft y) shapeCasts_S2048x8x1_S2048x8

/-- Each token's largest expert. -/
def pick (p : FVec F S2048x8 .f32) : IVec S2048 32 := fun j =>
  (Host.argReduce reducer_argmax_f32_i32 p (iotaInDim S2048x8 32 1) (constant S_ .f32 0xFF800000#32) (constantI S_ 32 0#32)
    reducesTo_S2048x8_S2048_d1 h_S_ j).2

/-- A number of an axis of `n` positions, a negative one counted from the axis's end. -/
def wrapped (n : BitVec 32) (k : IVec S2048 32) : IVec S2048 32 :=
  select (cmpi .slt k (broadcastInDim S2048 ![] bcast_S_S2048 (constantI S_ 32 0#32)))
    (addi k (broadcastInDim S2048 ![] bcast_S_S2048 (constantI S_ 32 n))) k

/-- Row `q` of this table is the pair of token `q` and its expert. -/
def places (k : IVec S2048 32) : IVec S2048x2 32 :=
  concatenate S2048x2 1 [⟨S2048x1, broadcastInDim S2048x1 ![0] bcast_S2048_S2048x1_0 (wrapped 2048#32 (iotaInDim S2048 32 0))⟩,
    ⟨S2048x1, broadcastInDim S2048x1 ![0] bcast_S2048_S2048x1_0 (wrapped 8#32 k)⟩] concatenates_S2048x1_S2048x1_S2048x2_d1

/-- The table of zeros with a one at each token's expert. -/
def oneAt (k : IVec S2048 32) : FVec F S2048x8 .f32 :=
  Host.scatter scatter_S2048x8_S2048x2_S2048_n_01_01_1 (fun _ b => b)
    (broadcastInDim S2048x8 ![] bcast_S_S2048x8 (constant S_ .f32 0x00000000#32)) (places k)
    (broadcastInDim S2048 ![] bcast_S_S2048 (constant S_ .f32 0x3F800000#32))

/-- The straight-through sum. -/
def through (p : FVec F S2048x8 .f32) : FVec F S2048x8 .f32 := addf (subf (oneAt (pick p)) p) p

/-- A table with a last axis of one position. -/
def withUnit (p : FVec F S2048x8 .f32) : FVec F S2048x8x1 .f32 := broadcastInDim S2048x8x1 ![0, 1] bcast_S2048x8_S2048x8x1_0_1 p

/-! ## The run -/

/-- The three layers and the division by the temperature. -/
abbrev scoreOps : List (HloOp τ sig (Elt F)) :=
  [binary main_arg0 main_arg1 main_v0 ((fun l r => Host.dotGeneral dot_S2048x8x1024_S1024x512_S2048x8x512_2_0_01_1_n_n none l r) : (⟨S2048x8x1024, .f32⟩ : BufTy).Contents (Elt F) → (⟨S1024x512, .f32⟩ : BufTy).Contents (Elt F) → (⟨S2048x8x512, .f32⟩ : BufTy).Contents (Elt F)),
   unary main_arg2 main_v1 (broadcastInDim S1x1x512 ![2] bcast_S512_S1x1x512_2 : (⟨S512, .f32⟩ : BufTy).Contents (Elt F) → (⟨S1x1x512, .f32⟩ : BufTy).Contents (Elt F)),
   unary main_v1 main_v2 (broadcastInDim S2048x8x512 ![0, 1, 2] bcast_S1x1x512_S2048x8x512_0_1_2 : (⟨S1x1x512, .f32⟩ : BufTy).Contents (Elt F) → (⟨S2048x8x512, .f32⟩ : BufTy).Contents (Elt F)),
   binary main_v0 main_v2 main_v3 (addf : (⟨S2048x8x512, .f32⟩ : BufTy).Contents (Elt F) → (⟨S2048x8x512, .f32⟩ : BufTy).Contents (Elt F) → (⟨S2048x8x512, .f32⟩ : BufTy).Contents (Elt F)),
   TRef.nullary main_call0.cst (constant S_ .f32 0x00000000#32),
   TRef.unary main_call0.cst main_call0.v0 (broadcastInDim S2048x8x512 ![] bcast_S_S2048x8x512),
   TRef.binary (.of main_v3) main_call0.v0 main_call0.v1 maximumf,
   binary main_v4 main_arg3 main_v5 ((fun l r => Host.dotGeneral dot_S2048x8x512_S512x512_S2048x8x512_2_0_01_1_n_n none l r) : (⟨S2048x8x512, .f32⟩ : BufTy).Contents (Elt F) → (⟨S512x512, .f32⟩ : BufTy).Contents (Elt F) → (⟨S2048x8x512, .f32⟩ : BufTy).Contents (Elt F)),
   unary main_arg4 main_v6 (broadcastInDim S1x1x512 ![2] bcast_S512_S1x1x512_2 : (⟨S512, .f32⟩ : BufTy).Contents (Elt F) → (⟨S1x1x512, .f32⟩ : BufTy).Contents (Elt F)),
   unary main_v6 main_v7 (broadcastInDim S2048x8x512 ![0, 1, 2] bcast_S1x1x512_S2048x8x512_0_1_2 : (⟨S1x1x512, .f32⟩ : BufTy).Contents (Elt F) → (⟨S2048x8x512, .f32⟩ : BufTy).Contents (Elt F)),
   binary main_v5 main_v7 main_v8 (addf : (⟨S2048x8x512, .f32⟩ : BufTy).Contents (Elt F) → (⟨S2048x8x512, .f32⟩ : BufTy).Contents (Elt F) → (⟨S2048x8x512, .f32⟩ : BufTy).Contents (Elt F)),
   TRef.nullary main_call1.cst (constant S_ .f32 0x00000000#32),
   TRef.unary main_call1.cst main_call1.v0 (broadcastInDim S2048x8x512 ![] bcast_S_S2048x8x512),
   TRef.binary (.of main_v8) main_call1.v0 main_call1.v1 maximumf,
   binary main_v9 main_arg5 main_v10 ((fun l r => Host.dotGeneral dot_S2048x8x512_S512x1_S2048x8x1_2_0_01_1_n_n none l r) : (⟨S2048x8x512, .f32⟩ : BufTy).Contents (Elt F) → (⟨S512x1, .f32⟩ : BufTy).Contents (Elt F) → (⟨S2048x8x1, .f32⟩ : BufTy).Contents (Elt F)),
   unary main_arg6 main_v11 (broadcastInDim S1x1x1 ![2] bcast_S1_S1x1x1_2 : (⟨S1, .f32⟩ : BufTy).Contents (Elt F) → (⟨S1x1x1, .f32⟩ : BufTy).Contents (Elt F)),
   unary main_v11 main_v12 (broadcastInDim S2048x8x1 ![0, 1, 2] bcast_S1x1x1_S2048x8x1_0_1_2 : (⟨S1x1x1, .f32⟩ : BufTy).Contents (Elt F) → (⟨S2048x8x1, .f32⟩ : BufTy).Contents (Elt F)),
   binary main_v10 main_v12 main_v13 (addf : (⟨S2048x8x1, .f32⟩ : BufTy).Contents (Elt F) → (⟨S2048x8x1, .f32⟩ : BufTy).Contents (Elt F) → (⟨S2048x8x1, .f32⟩ : BufTy).Contents (Elt F)),
   unary main_arg7 main_v14 (broadcastInDim S2048x8x1 ![] bcast_S_S2048x8x1 : (⟨S_, .f32⟩ : BufTy).Contents (Elt F) → (⟨S2048x8x1, .f32⟩ : BufTy).Contents (Elt F)),
   binary main_v13 main_v14 main_v15 (Host.divf : (⟨S2048x8x1, .f32⟩ : BufTy).Contents (Elt F) → (⟨S2048x8x1, .f32⟩ : BufTy).Contents (Elt F) → (⟨S2048x8x1, .f32⟩ : BufTy).Contents (Elt F))]

/-- The softmax over the experts. -/
abbrev softOps : List (HloOp τ sig (Elt F)) :=
  [nullary main_cst (constant S_ .f32 0xFF800000#32),
   binary main_v15 main_cst main_v16 ((fun x v => Host.reduce FloatOps.maximumf x v reducesTo_S2048x8x1_S2048x1_d1 h_S_) : (⟨S2048x8x1, .f32⟩ : BufTy).Contents (Elt F) → (⟨S_, .f32⟩ : BufTy).Contents (Elt F) → (⟨S2048x1, .f32⟩ : BufTy).Contents (Elt F)),
   nullary main_cst_0 (constant S_ .f32 0xFF800000#32),
   unary main_cst_0 main_v17 (broadcastInDim S2048x1 ![] bcast_S_S2048x1 : (⟨S_, .f32⟩ : BufTy).Contents (Elt F) → (⟨S2048x1, .f32⟩ : BufTy).Contents (Elt F)),
   binary main_v17 main_v16 main_v18 (maximumf : (⟨S2048x1, .f32⟩ : BufTy).Contents (Elt F) → (⟨S2048x1, .f32⟩ : BufTy).Contents (Elt F) → (⟨S2048x1, .f32⟩ : BufTy).Contents (Elt F)),
   unary main_v18 main_v19 (broadcastInDim S2048x1x1 ![0, 2] bcast_S2048x1_S2048x1x1_0_2 : (⟨S2048x1, .f32⟩ : BufTy).Contents (Elt F) → (⟨S2048x1x1, .f32⟩ : BufTy).Contents (Elt F)),
   unary main_v19 main_v20 (broadcastInDim S2048x8x1 ![0, 1, 2] bcast_S2048x1x1_S2048x8x1_0_1_2 : (⟨S2048x1x1, .f32⟩ : BufTy).Contents (Elt F) → (⟨S2048x8x1, .f32⟩ : BufTy).Contents (Elt F)),
   binary main_v15 main_v20 main_v21 (subf : (⟨S2048x8x1, .f32⟩ : BufTy).Contents (Elt F) → (⟨S2048x8x1, .f32⟩ : BufTy).Contents (Elt F) → (⟨S2048x8x1, .f32⟩ : BufTy).Contents (Elt F)),
   unary main_v21 main_v22 (Host.exp : (⟨S2048x8x1, .f32⟩ : BufTy).Contents (Elt F) → (⟨S2048x8x1, .f32⟩ : BufTy).Contents (Elt F)),
   nullary main_cst_1 (constant S_ .f32 0x00000000#32),
   binary main_v22 main_cst_1 main_v23 ((fun x v => Host.reduceAdd x v reducesTo_S2048x8x1_S2048x1_d1 h_S_) : (⟨S2048x8x1, .f32⟩ : BufTy).Contents (Elt F) → (⟨S_, .f32⟩ : BufTy).Contents (Elt F) → (⟨S2048x1, .f32⟩ : BufTy).Contents (Elt F)),
   unary main_v23 main_v24 (broadcastInDim S2048x1x1 ![0, 2] bcast_S2048x1_S2048x1x1_0_2 : (⟨S2048x1, .f32⟩ : BufTy).Contents (Elt F) → (⟨S2048x1x1, .f32⟩ : BufTy).Contents (Elt F)),
   unary main_v24 main_v25 (broadcastInDim S2048x8x1 ![0, 1, 2] bcast_S2048x1x1_S2048x8x1_0_1_2 : (⟨S2048x1x1, .f32⟩ : BufTy).Contents (Elt F) → (⟨S2048x8x1, .f32⟩ : BufTy).Contents (Elt F)),
   binary main_v22 main_v25 main_v26 (Host.divf : (⟨S2048x8x1, .f32⟩ : BufTy).Contents (Elt F) → (⟨S2048x8x1, .f32⟩ : BufTy).Contents (Elt F) → (⟨S2048x8x1, .f32⟩ : BufTy).Contents (Elt F)),
   reshape main_v26 main_v27 (rfl : (.f32 : EltTy) = .f32) shapeCasts_S2048x8x1_S2048x8]

/-- The largest expert of each token. -/
abbrev pickOps : List (HloOp τ sig (Elt F)) :=
  [TRef.nullary main_call2.v0 (iotaInDim S2048x8 32 1),
   TRef.nullary main_call2.cst (constant S_ .f32 0xFF800000#32),
   TRef.nullary main_call2.c (constantI S_ 32 0#32),
   TRef.quaternary (.of main_v27) main_call2.v0 main_call2.cst main_call2.c main_call2.v1_0 (fun x y u v j => (Host.argReduce reducer_argmax_f32_i32 x y u v reducesTo_S2048x8_S2048_d1 h_S_ j).1),
   TRef.quaternary (.of main_v27) main_call2.v0 main_call2.cst main_call2.c main_call2.v1_1 (fun x y u v j => (Host.argReduce reducer_argmax_f32_i32 x y u v reducesTo_S2048x8_S2048_d1 h_S_ j).2)]

/-- The table with a one at each token's expert. -/
abbrev markOps : List (HloOp τ sig (Elt F)) :=
  [nullary main_cst_2 (constant S_ .f32 0x00000000#32),
   unary main_cst_2 main_v29 (broadcastInDim S2048x8 ![] bcast_S_S2048x8 : (⟨S_, .f32⟩ : BufTy).Contents (Elt F) → (⟨S2048x8, .f32⟩ : BufTy).Contents (Elt F)),
   nullary main_v30 (iotaInDim S2048 32 0),
   nullary main_c (constantI S_ 32 0#32),
   unary main_c main_v31 (broadcastInDim S2048 ![] bcast_S_S2048 : (⟨S_, .i32⟩ : BufTy).Contents (Elt F) → (⟨S2048, .i32⟩ : BufTy).Contents (Elt F)),
   binary main_v30 main_v31 main_v32 (cmpi .slt : (⟨S2048, .i32⟩ : BufTy).Contents (Elt F) → (⟨S2048, .i32⟩ : BufTy).Contents (Elt F) → (⟨S2048, .i1⟩ : BufTy).Contents (Elt F)),
   nullary main_c_3 (constantI S_ 32 2048#32),
   unary main_c_3 main_v33 (broadcastInDim S2048 ![] bcast_S_S2048 : (⟨S_, .i32⟩ : BufTy).Contents (Elt F) → (⟨S2048, .i32⟩ : BufTy).Contents (Elt F)),
   binary main_v30 main_v33 main_v34 (addi : (⟨S2048, .i32⟩ : BufTy).Contents (Elt F) → (⟨S2048, .i32⟩ : BufTy).Contents (Elt F) → (⟨S2048, .i32⟩ : BufTy).Contents (Elt F)),
   ternary main_v32 main_v34 main_v30 main_v35 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
   nullary main_c_4 (constantI S_ 32 0#32),
   unary main_c_4 main_v36 (broadcastInDim S2048 ![] bcast_S_S2048 : (⟨S_, .i32⟩ : BufTy).Contents (Elt F) → (⟨S2048, .i32⟩ : BufTy).Contents (Elt F)),
   binary main_v28 main_v36 main_v37 (cmpi .slt : (⟨S2048, .i32⟩ : BufTy).Contents (Elt F) → (⟨S2048, .i32⟩ : BufTy).Contents (Elt F) → (⟨S2048, .i1⟩ : BufTy).Contents (Elt F)),
   nullary main_c_5 (constantI S_ 32 8#32),
   unary main_c_5 main_v38 (broadcastInDim S2048 ![] bcast_S_S2048 : (⟨S_, .i32⟩ : BufTy).Contents (Elt F) → (⟨S2048, .i32⟩ : BufTy).Contents (Elt F)),
   binary main_v28 main_v38 main_v39 (addi : (⟨S2048, .i32⟩ : BufTy).Contents (Elt F) → (⟨S2048, .i32⟩ : BufTy).Contents (Elt F) → (⟨S2048, .i32⟩ : BufTy).Contents (Elt F)),
   ternary main_v37 main_v39 main_v28 main_v40 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
   unary main_v35 main_v41 (broadcastInDim S2048x1 ![0] bcast_S2048_S2048x1_0 : (⟨S2048, .i32⟩ : BufTy).Contents (Elt F) → (⟨S2048x1, .i32⟩ : BufTy).Contents (Elt F)),
   unary main_v40 main_v42 (broadcastInDim S2048x1 ![0] bcast_S2048_S2048x1_0 : (⟨S2048, .i32⟩ : BufTy).Contents (Elt F) → (⟨S2048x1, .i32⟩ : BufTy).Contents (Elt F)),
   binary main_v41 main_v42 main_v43 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
   nullary main_cst_6 (constant S_ .f32 0x3F800000#32),
   unary main_cst_6 main_v44 (broadcastInDim S2048 ![] bcast_S_S2048 : (⟨S_, .f32⟩ : BufTy).Contents (Elt F) → (⟨S2048, .f32⟩ : BufTy).Contents (Elt F)),
   ternary main_v29 main_v43 main_v44 main_v45 ((fun x i u => Host.scatter scatter_S2048x8_S2048x2_S2048_n_01_01_1 (fun _ b => b) x i u) : (⟨S2048x8, .f32⟩ : BufTy).Contents (Elt F) → (⟨S2048x2, .i32⟩ : BufTy).Contents (Elt F) → (⟨S2048, .f32⟩ : BufTy).Contents (Elt F) → (⟨S2048x8, .f32⟩ : BufTy).Contents (Elt F))]

/-- The straight-through sum, and the results' last axis. -/
abbrev throughOps : List (HloOp τ sig (Elt F)) :=
  [binary main_v45 main_v27 main_v46 (subf : (⟨S2048x8, .f32⟩ : BufTy).Contents (Elt F) → (⟨S2048x8, .f32⟩ : BufTy).Contents (Elt F) → (⟨S2048x8, .f32⟩ : BufTy).Contents (Elt F)),
   binary main_v46 main_v27 main_v47 (addf : (⟨S2048x8, .f32⟩ : BufTy).Contents (Elt F) → (⟨S2048x8, .f32⟩ : BufTy).Contents (Elt F) → (⟨S2048x8, .f32⟩ : BufTy).Contents (Elt F)),
   unary main_v27 main_v48 (broadcastInDim S2048x8x1 ![0, 1] bcast_S2048x8_S2048x8x1_0_1 : (⟨S2048x8, .f32⟩ : BufTy).Contents (Elt F) → (⟨S2048x8x1, .f32⟩ : BufTy).Contents (Elt F)),
   unary main_v47 main_v49 (broadcastInDim S2048x8x1 ![0, 1] bcast_S2048x8_S2048x8x1_0_1 : (⟨S2048x8, .f32⟩ : BufTy).Contents (Elt F) → (⟨S2048x8x1, .f32⟩ : BufTy).Contents (Elt F))]

/-- All the reference's operations. -/
abbrev ops : List (HloOp τ sig (Elt F)) := scoreOps ++ (softOps ++ (pickOps ++ (markOps ++ throughOps)))

set_option maxHeartbeats 1000000 in
theorem main_eq (c : Dev nD) : main (F := F) c = seq ops := by
  simp only [main, fn_relu.body, fn_argmax.body, ops, scoreOps, softOps, pickOps, markOps, throughOps, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem scoreOps_sub : (scoreOps : List (HloOp τ sig (Elt F))).Forall fun op => op.bufs ⊆ tcRefs τ sig :=
  ⟨binary_bufs_sub ..,
   unary_bufs_sub ..,
   unary_bufs_sub ..,
   binary_bufs_sub ..,
   nullary_bufs_sub ..,
   unary_bufs_sub ..,
   binary_bufs_sub ..,
   binary_bufs_sub ..,
   unary_bufs_sub ..,
   unary_bufs_sub ..,
   binary_bufs_sub ..,
   nullary_bufs_sub ..,
   unary_bufs_sub ..,
   binary_bufs_sub ..,
   binary_bufs_sub ..,
   unary_bufs_sub ..,
   unary_bufs_sub ..,
   binary_bufs_sub ..,
   unary_bufs_sub ..,
   binary_bufs_sub ..⟩
theorem softOps_sub : (softOps : List (HloOp τ sig (Elt F))).Forall fun op => op.bufs ⊆ tcRefs τ sig :=
  ⟨nullary_bufs_sub ..,
   binary_bufs_sub ..,
   nullary_bufs_sub ..,
   unary_bufs_sub ..,
   binary_bufs_sub ..,
   unary_bufs_sub ..,
   unary_bufs_sub ..,
   binary_bufs_sub ..,
   unary_bufs_sub ..,
   nullary_bufs_sub ..,
   binary_bufs_sub ..,
   unary_bufs_sub ..,
   unary_bufs_sub ..,
   binary_bufs_sub ..,
   reshape_bufs_sub ..⟩
theorem pickOps_sub : (pickOps : List (HloOp τ sig (Elt F))).Forall fun op => op.bufs ⊆ tcRefs τ sig :=
  ⟨nullary_bufs_sub ..,
   nullary_bufs_sub ..,
   nullary_bufs_sub ..,
   quaternary_bufs_sub ..,
   quaternary_bufs_sub ..⟩
theorem markOps_sub : (markOps : List (HloOp τ sig (Elt F))).Forall fun op => op.bufs ⊆ tcRefs τ sig :=
  ⟨nullary_bufs_sub ..,
   unary_bufs_sub ..,
   nullary_bufs_sub ..,
   nullary_bufs_sub ..,
   unary_bufs_sub ..,
   binary_bufs_sub ..,
   nullary_bufs_sub ..,
   unary_bufs_sub ..,
   binary_bufs_sub ..,
   ternary_bufs_sub ..,
   nullary_bufs_sub ..,
   unary_bufs_sub ..,
   binary_bufs_sub ..,
   nullary_bufs_sub ..,
   unary_bufs_sub ..,
   binary_bufs_sub ..,
   ternary_bufs_sub ..,
   unary_bufs_sub ..,
   unary_bufs_sub ..,
   binary_bufs_sub ..,
   nullary_bufs_sub ..,
   unary_bufs_sub ..,
   ternary_bufs_sub ..⟩
theorem throughOps_sub : (throughOps : List (HloOp τ sig (Elt F))).Forall fun op => op.bufs ⊆ tcRefs τ sig :=
  ⟨binary_bufs_sub ..,
   binary_bufs_sub ..,
   unary_bufs_sub ..,
   unary_bufs_sub ..⟩
theorem ops_sub : (ops : List (HloOp τ sig (Elt F))).Forall fun op => op.bufs ⊆ tcRefs τ sig := by
  rw [List.forall_iff_forall_mem]
  intro op h
  simp only [ops, List.mem_append] at h
  rcases h with h | h | h | h | h
  · exact List.forall_iff_forall_mem.mp scoreOps_sub op h
  · exact List.forall_iff_forall_mem.mp softOps_sub op h
  · exact List.forall_iff_forall_mem.mp pickOps_sub op h
  · exact List.forall_iff_forall_mem.mp markOps_sub op h
  · exact List.forall_iff_forall_mem.mp throughOps_sub op h

/-- A run of one list of operations and then another. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The first part leaves the scaled logits. -/
theorem score_eq (V : Valuation τ sig (Elt F)) : after scoreOps V (main_v15 : DevRef τ sig)
    = scaled (V main_arg0) (V main_arg1) (V main_arg2) (V main_arg3) (V main_arg4) (V main_arg5) (V main_arg6) (V main_arg7) := by
  after_results_simp; rfl

/-- The second part leaves the softmax's table. -/
theorem soft_eq (V : Valuation τ sig (Elt F)) : after softOps V (main_v27 : DevRef τ sig) = table (V main_v15) := by
  after_results_simp; rfl

/-- The third part leaves each token's largest expert, and the softmax's table as it was. -/
theorem pick_eq (V : Valuation τ sig (Elt F)) : after pickOps V (main_v28 : DevRef τ sig) = pick (V main_v27) := by
  after_results_simp; rfl
theorem pick_keeps (V : Valuation τ sig (Elt F)) : after pickOps V (main_v27 : DevRef τ sig) = V main_v27 := by
  after_results_simp

/-- The fourth part leaves the table with a one at each token's expert, and the softmax's table as it was. -/
theorem mark_eq (V : Valuation τ sig (Elt F)) : after markOps V (main_v45 : DevRef τ sig) = oneAt (V main_v28) := by
  after_results_simp; rfl
theorem mark_keeps (V : Valuation τ sig (Elt F)) : after markOps V (main_v27 : DevRef τ sig) = V main_v27 := by
  after_results_simp

/-- The last part leaves the two results. -/
theorem through_eq0 (V : Valuation τ sig (Elt F)) : after throughOps V (main_v48 : DevRef τ sig) = withUnit (V main_v27) := by
  after_results_simp; rfl
theorem through_eq1 (V : Valuation τ sig (Elt F)) : after throughOps V (main_v49 : DevRef τ sig)
    = withUnit (addf (subf (V main_v45) (V main_v27)) (V main_v27)) := by
  after_results_simp; rfl

/-- The first result is the softmax. -/
theorem result0_eq (V : Valuation τ sig (Elt F)) : after ops V (main_v48 : DevRef τ sig)
    = withUnit (table (scaled (V main_arg0) (V main_arg1) (V main_arg2) (V main_arg3) (V main_arg4) (V main_arg5) (V main_arg6)
        (V main_arg7))) := by
  rw [ops, after_append, after_append, after_append, after_append, through_eq0, mark_keeps, pick_keeps, soft_eq, score_eq]

/-- The second result is the straight-through sum. -/
theorem result1_eq (V : Valuation τ sig (Elt F)) : after ops V (main_v49 : DevRef τ sig)
    = withUnit (through (table (scaled (V main_arg0) (V main_arg1) (V main_arg2) (V main_arg3) (V main_arg4) (V main_arg5)
        (V main_arg6) (V main_arg7)))) := by
  rw [ops, after_append, after_append, after_append, after_append, through_eq1, mark_eq, mark_keeps, pick_eq, pick_keeps, soft_eq, score_eq]
  rfl

theorem arg0_eq (V : Valuation τ sig (Elt F)) : after ops V (main_arg0 : DevRef τ sig) = V main_arg0 := by
  simp only [ops, after_append, after_cons, after_nil]; rfl
theorem arg1_eq (V : Valuation τ sig (Elt F)) : after ops V (main_arg1 : DevRef τ sig) = V main_arg1 := by
  simp only [ops, after_append, after_cons, after_nil]; rfl
theorem arg2_eq (V : Valuation τ sig (Elt F)) : after ops V (main_arg2 : DevRef τ sig) = V main_arg2 := by
  simp only [ops, after_append, after_cons, after_nil]; rfl
theorem arg3_eq (V : Valuation τ sig (Elt F)) : after ops V (main_arg3 : DevRef τ sig) = V main_arg3 := by
  simp only [ops, after_append, after_cons, after_nil]; rfl
theorem arg4_eq (V : Valuation τ sig (Elt F)) : after ops V (main_arg4 : DevRef τ sig) = V main_arg4 := by
  simp only [ops, after_append, after_cons, after_nil]; rfl
theorem arg5_eq (V : Valuation τ sig (Elt F)) : after ops V (main_arg5 : DevRef τ sig) = V main_arg5 := by
  simp only [ops, after_append, after_cons, after_nil]; rfl
theorem arg6_eq (V : Valuation τ sig (Elt F)) : after ops V (main_arg6 : DevRef τ sig) = V main_arg6 := by
  simp only [ops, after_append, after_cons, after_nil]; rfl
theorem arg7_eq (V : Valuation τ sig (Elt F)) : after ops V (main_arg7 : DevRef τ sig) = V main_arg7 := by
  simp only [ops, after_append, after_cons, after_nil]; rfl

variable (m : (ℓ : Loc nD τ sig) → Buf (Elt F) ℓ) (ρ : Dev nD → PrngReg)

/-- The scaled logits of core `c`'s arguments. -/
def scaledOf (c : Dev nD) : FVec F S2048x8x1 .f32 :=
  scaled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The reference's run: the results hold the softmax and the straight-through sum, and the arguments are unchanged. -/
theorem run : θ_run defs (onTc (τ := τ) (main (F := F))) ⟨m, fun _ => 0, ρ⟩ (fun r => ∀ c : Dev nD,
      r.2.mem ((c.tc : Thread nD τ).loc main_v48) = withUnit (table (scaledOf m c))
      ∧ r.2.mem ((c.tc : Thread nD τ).loc main_v49) = withUnit (through (table (scaledOf m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c main_v48).trans (result0_eq _), (h c main_v49).trans (result1_eq _),
    (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _), (h c main_arg7).trans (arg7_eq _)⟩)
    (run_seq scopedRefs_eq scopedSems_eq defs main (fun _ => ops) main_eq (fun _ => ops_sub) m ρ)

/-- The reference's frame: the arguments are unchanged and the counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2.2, sem_eq_zero_of_no_sems (by decide) r.2⟩) (run m ρ)

end Cert.ReferenceIdeal.Gate

end
-- ==== Proof.Same.lean ====
module

public import proofs.«01_k».proof.Defs
public import proofs.«01_k».proof.Proof.Gen.Kernel
public import proofs.«01_k».proof.Proof.Run

/-! # The two printings of the kernel are one program

The kernel is printed twice, once to be read with floats as bit patterns and once to be read with floats as extended
reals. No rule rewrote anything on the way to the second printing, so the two programs agree part by part, and what
Run.lean proves of the second printing for every reading of floats holds of the first. -/

@[expose] public section

set_option maxHeartbeats 1000000
set_option maxRecDepth 100000

open Idealize.ShloMosaic

namespace Cert.Kernel.Gate

/-- The two printings declare the same kernel body. -/
theorem bodies_same :
    @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  match l, a with
  | 0, (t, s) => rfl

/-- The two printings stage the same windows on the same grid. -/
theorem pipelines_same :
    (@Cert.Kernel.pcfgs Bits Cert.Kernel.Gen.facts) = (@Cert.KernelIdeal.pcfgs Bits Cert.KernelIdeal.Gen.facts) := rfl

/-- So they declare the same table of bodies. -/
theorem defs_same :
    @Cert.Kernel.defs Bits _ Cert.Kernel.Gen.facts = @Cert.KernelIdeal.defs Bits _ Cert.KernelIdeal.Gen.facts := by
  unfold Cert.Kernel.defs Cert.KernelIdeal.defs
  exact congrArg (Pipeline.defs (@Cert.KernelIdeal.pcfgs Bits Cert.KernelIdeal.Gen.facts)) bodies_same

/-- And their main functions are the same program. -/
theorem main_same :
    @Cert.Kernel.main Bits Cert.Kernel.Gen.facts = @Cert.KernelIdeal.main Bits Cert.KernelIdeal.Gen.facts := rfl

/-- The kernel as it is run, floats as bit patterns, ends with its arguments unchanged and every counter at rest. -/
theorem frame : Cert.quiescent_Kernel (hKernel := Cert.Kernel.Gen.facts) := by
  intro m ρ _
  have h := Cert.KernelIdeal.Gate.frame (F := Bits) m ρ
  rw [← defs_same, ← main_same] at h
  exact h

end Cert.Kernel.Gate
-- ==== Proof.Value.lean ====
module

public import proofs.«01_k».proof.Proof.Run
public import Idealize.ShloMosaic.Lib.Pipeline.Value
public import Idealize.ShloMosaic.Lib.StableHlo.Run

/-! # What the kernel's results hold

The kernel's operands are blocks of its arguments, the two result arrays are written whole at the last grid point, and the
lines after the kernel transpose them and add a last axis. This module reads the two results off the run, index by index,
in terms of the arguments. -/

@[expose] public section

set_option maxRecDepth 16384

noncomputable section

namespace Cert.KernelIdeal.Gate

open Cert.KernelIdeal.Gen
open Idealize.ShloMosaic Idealize.ShloMosaic.TcCoe Idealize.ShloMosaic.StableHlo Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## What the lines before the kernel leave -/

/-- The tokens, one row per token and expert. -/
theorem rows_eq (c : Dev nD) : V m c main_v0 = shapeCast S16384x1024 (m ((c : Thread nD τ).loc main_arg0)) shapeCasts_S2048x8x1024_S16384x1024 := by
  show after hostOps0 _ _ = _
  after_results_simp; rfl

/-- The first bias as a row. -/
theorem bias1_eq (c : Dev nD) : V m c main_v1 = shapeCast S1x512 (m ((c : Thread nD τ).loc main_arg2)) shapeCasts_S512_S1x512 := by
  show after hostOps0 _ _ = _
  after_results_simp; rfl

/-- The second bias as a row. -/
theorem bias2_eq (c : Dev nD) : V m c main_v2 = shapeCast S1x512 (m ((c : Thread nD τ).loc main_arg4)) shapeCasts_S512_S1x512 := by
  show after hostOps0 _ _ = _
  after_results_simp; rfl

/-- The third bias as a table of one entry. -/
theorem bias3_eq (c : Dev nD) : V m c main_v3 = shapeCast S1x1 (m ((c : Thread nD τ).loc main_arg6)) shapeCasts_S1_S1x1 := by
  show after hostOps0 _ _ = _
  after_results_simp; rfl

/-- The temperature as a table of one entry. -/
theorem temperature_eq (c : Dev nD) : V m c main_v4 = shapeCast S1x1 (m ((c : Thread nD τ).loc main_arg7)) shapeCasts_S_S1x1 := by
  show after hostOps0 _ _ = _
  after_results_simp; rfl

/-! ## The kernel's operands -/

/-- The operands other than the tokens are staged whole: the first weights, -/
theorem weights1 (c : Dev nD) (t : Fin cfg0.N) : (iblk m c 1 t : Vec F S1024x512 .f32) = m ((c : Thread nD τ).loc main_arg1) := by
  have hz : (fun a => win0_1.index t a * main_arg1.ty.shape.size a) = fun _ => 0 := funext fun a => by fin_cases a <;> rfl
  exact (Memref.read_access_unit_zero (Elt F) main_arg1 hz (fun a => by rw [congrFun hz a]; simp) _).trans (V_main_arg1 m c)

/-- the first bias, -/
theorem staged2 (c : Dev nD) (t : Fin cfg0.N) : (iblk m c 2 t : Vec F S1x512 .f32) = V m c main_v1 := by
  have hz : (fun a => win0_2.index t a * main_v1.ty.shape.size a) = fun _ => 0 := funext fun a => by fin_cases a <;> rfl
  exact Memref.read_access_unit_zero (Elt F) main_v1 hz (fun a => by rw [congrFun hz a]; simp) _

/-- the second weights, -/
theorem weights2 (c : Dev nD) (t : Fin cfg0.N) : (iblk m c 3 t : Vec F S512x512 .f32) = m ((c : Thread nD τ).loc main_arg3) := by
  have hz : (fun a => win0_3.index t a * main_arg3.ty.shape.size a) = fun _ => 0 := funext fun a => by fin_cases a <;> rfl
  exact (Memref.read_access_unit_zero (Elt F) main_arg3 hz (fun a => by rw [congrFun hz a]; simp) _).trans (V_main_arg3 m c)

/-- the second bias, -/
theorem staged4 (c : Dev nD) (t : Fin cfg0.N) : (iblk m c 4 t : Vec F S1x512 .f32) = V m c main_v2 := by
  have hz : (fun a => win0_4.index t a * main_v2.ty.shape.size a) = fun _ => 0 := funext fun a => by fin_cases a <;> rfl
  exact Memref.read_access_unit_zero (Elt F) main_v2 hz (fun a => by rw [congrFun hz a]; simp) _

/-- the third weights, -/
theorem weights3 (c : Dev nD) (t : Fin cfg0.N) : (iblk m c 5 t : Vec F S512x1 .f32) = m ((c : Thread nD τ).loc main_arg5) := by
  have hz : (fun a => win0_5.index t a * main_arg5.ty.shape.size a) = fun _ => 0 := funext fun a => by fin_cases a <;> rfl
  exact (Memref.read_access_unit_zero (Elt F) main_arg5 hz (fun a => by rw [congrFun hz a]; simp) _).trans (V_main_arg5 m c)

/-- the third bias, -/
theorem staged6 (c : Dev nD) (t : Fin cfg0.N) : (iblk m c 6 t : Vec F S1x1 .f32) = V m c main_v3 := by
  have hz : (fun a => win0_6.index t a * main_v3.ty.shape.size a) = fun _ => 0 := funext fun a => by fin_cases a <;> rfl
  exact Memref.read_access_unit_zero (Elt F) main_v3 hz (fun a => by rw [congrFun hz a]; simp) _

/-- and the temperature. -/
theorem staged7 (c : Dev nD) (t : Fin cfg0.N) : (iblk m c 7 t : Vec F S1x1 .f32) = V m c main_v4 := by
  have hz : (fun a => win0_7.index t a * main_v4.ty.shape.size a) = fun _ => 0 := funext fun a => by fin_cases a <;> rfl
  exact Memref.read_access_unit_zero (Elt F) main_v4 hz (fun a => by rw [congrFun hz a]; simp) _

/-- Entry `j` of a bias row is entry `j` of the bias. -/
theorem row_cast (b : FVec F S512 .f32) (r : Fin 1) (j : Fin 512) :
    (shapeCast S1x512 b shapeCasts_S512_S1x512 : FVec F S1x512 .f32) (ix2 r j) = b (ix1 j) := by
  refine shapeCast_apply b _ _ _ ?_
  rw [Shape.rowMajor_val_one, Shape.rowMajor_val_two]
  show j.val = r.val * 512 + j.val
  omega

theorem hidden1 (c : Dev nD) (t : Fin cfg0.N) (r : Fin 1) (j : Fin 512) :
    (iblk m c 2 t : Vec F S1x512 .f32) (ix2 r j) = m ((c : Thread nD τ).loc main_arg2) (ix1 j) := by
  rw [staged2, bias1_eq]; exact row_cast _ r j

theorem hidden2 (c : Dev nD) (t : Fin cfg0.N) (r : Fin 1) (j : Fin 512) :
    (iblk m c 4 t : Vec F S1x512 .f32) (ix2 r j) = m ((c : Thread nD τ).loc main_arg4) (ix1 j) := by
  rw [staged4, bias2_eq]; exact row_cast _ r j

theorem last_bias (c : Dev nD) (t : Fin cfg0.N) (i : S1x1.Idx) :
    (iblk m c 6 t : Vec F S1x1 .f32) i = m ((c : Thread nD τ).loc main_arg6) (ix1 0) := by
  rw [staged6, bias3_eq]
  exact congrArg (m ((c : Thread nD τ).loc main_arg6)) (funext fun a => by fin_cases a; exact Subsingleton.elim (α := Fin 1) _ _)

theorem divisor (c : Dev nD) (t : Fin cfg0.N) (i : S1x1.Idx) :
    (iblk m c 7 t : Vec F S1x1 .f32) i = m ((c : Thread nD τ).loc main_arg7) ix0 := by
  rw [staged7, temperature_eq]
  exact congrArg (m ((c : Thread nD τ).loc main_arg7)) (funext fun a => a.elim0)

/-- Row `r` of point `t`'s block of tokens is expert `r mod 8` of token `256 t + r / 8`. -/
theorem tokens (c : Dev nD) (t : Fin cfg0.N) (r : Fin 2048) (k : Fin 1024) :
    (iblk m c 0 t : Vec F S2048x1024 .f32) (ix2 r k)
      = m ((c : Thread nD τ).loc main_arg0) (ix3 ⟨256 * t.val + r.val / 8, by have := lt_eight t; omega⟩ ⟨r.val % 8, by omega⟩ k) := by
  have h8 := lt_eight t
  have hi : win0_0.index t 0 = t.val ∧ win0_0.index t 1 = 0 := by
    rcases fin_N0 t with rfl | rfl | rfl | rfl | rfl | rfl | rfl | rfl <;> decide
  unfold iblk
  rw [View.read_apply]
  show V m c main_v0 _ = _
  rw [rows_eq]
  refine shapeCast_apply _ _ _ _ ?_
  refine (Shape.rowMajor_val_three (d := ![2048, 8, 1024]) _).trans (Eq.trans ?_ (Shape.rowMajor_val_two (d := ![16384, 1024]) _).symm)
  show ((256 * t.val + r.val / 8) * 8 + r.val % 8) * 1024 + k.val
    = (win0_0.index t 0 * 2048 + 1 * r.val) * 1024 + (win0_0.index t 1 * 1024 + 1 * k.val)
  rw [hi.1, hi.2]
  omega

/-! ## The result arrays -/

/-- The soft result, experts by tokens. -/
def softArray (c : Dev nD) : FVec F S8x2048 .f32 := k0_pay2 (iblk m c 6 t0_7) (iblk m c 7 t0_7) (logits m c)

/-- The hard result, experts by tokens. -/
def hardArray (c : Dev nD) : FVec F S8x2048 .f32 := k0_pay3 (iblk m c 6 t0_7) (iblk m c 7 t0_7) (logits m c)

/-- Only the last point writes a result back. -/
theorem last_point {t : Fin cfg0.N} (h : t.val % 8 = 7) : t = t0_7 :=
  Fin.ext (by have := lt_eight t; show t.val = 7; omega)

theorem soft_flushed (c : Dev nD) (t : Fin cfg0.N) (hf : (cfg0.win 8).flush t = true) :
    (dats m 0 c).flushed 8 t = ((cfg0.win 8).blk t).view.read (Elt F) (softArray m c) := by
  obtain rfl := last_point ((flush0_8 t).mp hf)
  show (cfg0.win 8).cut (grid0.coords t0_7) ((dats m 0 c).after 8 t0_7) = _
  rw [after_8]
  have hz : (fun a => win0_8.index t0_7 a * main_v5_0.ty.shape.size a) = fun _ => 0 := funext fun a => by fin_cases a <;> decide
  exact (Memref.read_access_unit_zero (Elt F) main_v5_0 hz (fun a => by rw [congrFun hz a]; simp) (softArray m c)).symm

theorem hard_flushed (c : Dev nD) (t : Fin cfg0.N) (hf : (cfg0.win 9).flush t = true) :
    (dats m 0 c).flushed 9 t = ((cfg0.win 9).blk t).view.read (Elt F) (hardArray m c) := by
  obtain rfl := last_point ((flush0_9 t).mp hf)
  show (cfg0.win 9).cut (grid0.coords t0_7) ((dats m 0 c).after 9 t0_7) = _
  rw [after_9]
  have hz : (fun a => win0_9.index t0_7 a * main_v5_1.ty.shape.size a) = fun _ => 0 := funext fun a => by fin_cases a <;> decide
  exact (Memref.read_access_unit_zero (Elt F) main_v5_1 hz (fun a => by rw [congrFun hz a]; simp) (hardArray m c)).symm

/-- The last point's block is the whole soft array, -/
theorem soft_covers (i : S8x2048.Idx) : i ∈ ((View.whole main_v5_0).slice (win0_8.rect t0_7)).set := by
  rw [View.set_slice_whole, Rect.mem_set_unit]
  intro a
  have h0 : (i 0).val < 8 := (i 0).isLt
  have h1 : (i 1).val < 2048 := (i 1).isLt
  match a with
  | ⟨0, _⟩ => exact ⟨Nat.zero_le _, by show (i 0).val < 0 + 8; omega⟩
  | ⟨1, _⟩ => exact ⟨Nat.zero_le _, by show (i 1).val < 0 + 2048; omega⟩

/-- and the whole hard array. -/
theorem hard_covers (i : S8x2048.Idx) : i ∈ ((View.whole main_v5_1).slice (win0_9.rect t0_7)).set := by
  rw [View.set_slice_whole, Rect.mem_set_unit]
  intro a
  have h0 : (i 0).val < 8 := (i 0).isLt
  have h1 : (i 1).val < 2048 := (i 1).isLt
  match a with
  | ⟨0, _⟩ => exact ⟨Nat.zero_le _, by show (i 0).val < 0 + 8; omega⟩
  | ⟨1, _⟩ => exact ⟨Nat.zero_le _, by show (i 1).val < 0 + 2048; omega⟩

/-- So the kernel leaves the soft result -/
theorem soft_end (c : Dev nD) : (dats m 0 c).arrAt 8 cfg0.N = softArray m c :=
  (dats m 0 c).arrAt_eq_of_cover 8 (softArray m c) (soft_flushed m c)
    fun i => ⟨t0_7, (flush0_8 t0_7).mpr rfl, soft_covers i⟩

/-- and the hard result. -/
theorem hard_end (c : Dev nD) : (dats m 0 c).arrAt 9 cfg0.N = hardArray m c :=
  (dats m 0 c).arrAt_eq_of_cover 9 (hardArray m c) (hard_flushed m c)
    fun i => ⟨t0_7, (flush0_9 t0_7).mpr rfl, hard_covers i⟩

/-! ## The lines after the kernel -/

/-- An experts-by-tokens array as the program returns it: transposed, with a last axis of one position. -/
def returned (p : FVec F S8x2048 .f32) : FVec F S2048x8x1 .f32 :=
  shapeCast S2048x8x1 (transpose S2048x8 [1, 0] p transposes_S8x2048_S2048x8_1_0) shapeCasts_S2048x8_S2048x8x1

/-- Entry (token, expert) of what is returned is entry (expert, token) of the array. -/
theorem returned_apply (p : FVec F S8x2048 .f32) (q : Fin 2048) (e : Fin 8) (u : Fin 1) :
    returned p (ix3 q e u) = p (ix2 e q) := by
  unfold returned
  rw [shapeCast_apply _ _ _ (ix2 q e) (by
    rw [Shape.rowMajor_val_three, Shape.rowMajor_val_two]
    show q.val * 8 + e.val = (q.val * 8 + e.val) * 1 + u.val
    omega)]
  refine congrArg p (funext fun a => ?_)
  fin_cases a <;> rfl

theorem arrays_distinct : Function.Injective (Pipeline.arrRef spec0) := by decide

/-- The lines after the kernel leave the soft result, transposed, -/
theorem tail_soft (c : Dev nD) :
    Pipeline.afterTail₀ cfgs (dats m) 0 (V0 m) [hostOps1] c main_v7 = returned (softArray m c) := by
  unfold Pipeline.afterTail₀
  have e := Pipeline.withArrays_arr spec0 arrays_distinct c (V0 m c) (fun w => (dats m 0 c).arrAt w cfg0.N) 8
  rw [soft_end] at e
  show after hostOps1 _ _ = _
  after_results_simp
  exact congrArg returned e

/-- and the hard result, transposed. -/
theorem tail_hard (c : Dev nD) :
    Pipeline.afterTail₀ cfgs (dats m) 0 (V0 m) [hostOps1] c main_v9 = returned (hardArray m c) := by
  unfold Pipeline.afterTail₀
  have e := Pipeline.withArrays_arr spec0 arrays_distinct c (V0 m c) (fun w => (dats m 0 c).arrAt w cfg0.N) 9
  rw [hard_end] at e
  show after hostOps1 _ _ = _
  after_results_simp
  exact congrArg returned e

/-- The run, read: the two results, and the arguments unchanged. -/
theorem run_value : θ_run defs (onTc (τ := τ) (main (F := F))) ⟨m, fun _ => 0, ρ⟩ (fun r => ∀ c : Dev nD,
      r.2.mem ((c.tc : Thread nD τ).loc main_v7) = returned (softArray m c)
      ∧ r.2.mem ((c.tc : Thread nD τ).loc main_v9) = returned (hardArray m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨((h.1 c).2 main_v7 (Pipeline.mem_restRefs_of main_v7 (by decide) (by decide))).trans (tail_soft m c),
        ((h.1 c).2 main_v9 (Pipeline.mem_restRefs_of main_v9 (by decide) (by decide))).trans (tail_hard m c), (h.2.1 c)⟩)
    (θ_run_and (run_main m ρ) (frame m ρ))

end Cert.KernelIdeal.Gate

end
-- ==== Proof.Math.lean ====
module

public import Idealize.ShloMosaic.Lib.Pipeline.Value
public import Idealize.ShloMosaic.Lib.IdealHost

/-! # The mathematics of the gate

What both programs compute, on functions of plain indices over the extended reals: a row of inputs through two hidden
layers and a third product, the softmax of a token's eight scores, and the first expert whose entry is largest. The last
part shows that finite scores have finite softmax values, so that taking such a value away and adding it back changes
nothing. -/

@[expose] public section

noncomputable section

namespace Cert.Gate

open Idealize.ShloMosaic
open scoped BigOperators

/-! ## The definitions -/

/-- One hidden layer: a product with the weights, a bias, the larger of that and zero. -/
def hidden {n p : ℕ} (h : Fin n → EReal) (W : Fin n → Fin p → EReal) (b : Fin p → EReal) (j : Fin p) : EReal :=
  max (∑ k, h k * W k j + b j) 0

/-- The product of the second hidden layer with the third weights, before the last bias. -/
def logit {n p : ℕ} (x : Fin n → EReal) (W1 : Fin n → Fin p → EReal) (b1 : Fin p → EReal) (W2 : Fin p → Fin p → EReal)
    (b2 : Fin p → EReal) (W3 : Fin p → EReal) : EReal :=
  ∑ k, hidden (hidden x W1 b1) W2 b2 k * W3 k

/-- The largest of a family of values. -/
def top {n : ℕ} (y : Fin n → EReal) : EReal := Finset.univ.fold max ⊥ y

/-- The softmax, each exponential taken of the distance below the largest value. -/
def softmax {n : ℕ} (y : Fin n → EReal) (e : Fin n) : EReal :=
  Ideal.div (Ideal.exp (y e - top y)) (∑ e', Ideal.exp (y e' - top y))

/-- Position `e` is the first at which the family is largest. -/
def IsFirst {n : ℕ} (p : Fin n → EReal) (e : Fin n) : Prop := p e = top p ∧ ∀ e', p e' = top p → e ≤ e'

open Classical in
/-- One at the first position at which the family is largest, zero elsewhere. -/
def oneHot {n : ℕ} (p : Fin n → EReal) (e : Fin n) : EReal := if IsFirst p e then 1 else 0

/-! ## The largest value -/

theorem le_top {n : ℕ} (y : Fin n → EReal) (e : Fin n) : y e ≤ top y :=
  (Finset.le_fold_max (y e)).mpr (Or.inr ⟨e, Finset.mem_univ e, le_rfl⟩)

/-- A family that is not empty attains its largest value. -/
theorem exists_top {n : ℕ} (y : Fin (n + 1) → EReal) : ∃ e, y e = top y := by
  rcases (Finset.le_fold_max (s := Finset.univ) (f := y) (b := ⊥) (top y)).mp le_rfl with h | ⟨e, _, h⟩
  · exact ⟨0, le_antisymm (le_top y 0) (h.trans bot_le)⟩
  · exact ⟨e, le_antisymm (le_top y e) h⟩

/-- A value of the family that bounds it is its largest. -/
theorem top_eq {n : ℕ} (y : Fin n → EReal) (e : Fin n) (h : ∀ e', y e' ≤ y e) : top y = y e :=
  le_antisymm ((Finset.fold_max_le _).mpr ⟨bot_le, fun e' _ => h e'⟩) (le_top y e)

/-- There is a first position at which the family is largest, -/
theorem exists_first {n : ℕ} (p : Fin (n + 1) → EReal) : ∃ e, IsFirst p e := by
  classical
  have hne : (Finset.univ.filter fun e => p e = top p).Nonempty :=
    (exists_top p).imp fun e he => Finset.mem_filter.mpr ⟨Finset.mem_univ e, he⟩
  exact ⟨_, (Finset.mem_filter.mp (Finset.min'_mem _ hne)).2,
    fun e' he' => Finset.min'_le _ _ (Finset.mem_filter.mpr ⟨Finset.mem_univ e', he'⟩)⟩

/-- and only one. -/
theorem IsFirst.unique {n : ℕ} {p : Fin n → EReal} {e e' : Fin n} (h : IsFirst p e) (h' : IsFirst p e') : e = e' :=
  le_antisymm (h.2 e' h'.1) (h'.2 e h.1)

/-- The one of a family is where its first largest value is. -/
theorem oneHot_eq {n : ℕ} {p : Fin n → EReal} {f : Fin n} (hf : IsFirst p f) (e : Fin n) : oneHot p e = if e = f then 1 else 0 := by
  unfold oneHot
  by_cases h : e = f
  · subst h; rw [if_pos hf, if_pos rfl]
  · rw [if_neg h, if_neg fun h' => h (h'.unique hf)]

/-! ## Finite values -/

/-- A value that is neither infinity. -/
def IsReal (x : EReal) : Prop := x ≠ ⊤ ∧ x ≠ ⊥

theorem IsReal.exists_real {x : EReal} (h : IsReal x) : ∃ r : ℝ, x = r := ⟨x.toReal, (EReal.coe_toReal h.1 h.2).symm⟩

theorem fin_coe (r : ℝ) : IsReal (r : EReal) := ⟨EReal.coe_ne_top r, EReal.coe_ne_bot r⟩

theorem fin_zero : IsReal (0 : EReal) := fin_coe 0

theorem IsReal.add {x y : EReal} (hx : IsReal x) (hy : IsReal y) : IsReal (x + y) := by
  obtain ⟨a, rfl⟩ := hx.exists_real; obtain ⟨b, rfl⟩ := hy.exists_real
  rw [← EReal.coe_add]; exact fin_coe _

theorem IsReal.mul {x y : EReal} (hx : IsReal x) (hy : IsReal y) : IsReal (x * y) := by
  obtain ⟨a, rfl⟩ := hx.exists_real; obtain ⟨b, rfl⟩ := hy.exists_real
  rw [← EReal.coe_mul]; exact fin_coe _

theorem IsReal.max {x y : EReal} (hx : IsReal x) (hy : IsReal y) : IsReal (max x y) := by
  rcases max_choice x y with h | h <;> rw [h] <;> assumption

theorem fin_sum {n : ℕ} {f : Fin n → EReal} (h : ∀ k, IsReal (f k)) : IsReal (∑ k, f k) :=
  Finset.sum_induction f IsReal (fun _ _ => IsReal.add) fin_zero fun k _ => h k

/-- A hidden layer of finite values is finite. -/
theorem fin_hidden {n p : ℕ} {h : Fin n → EReal} {W : Fin n → Fin p → EReal} {b : Fin p → EReal} (hh : ∀ k, IsReal (h k))
    (hW : ∀ k j, IsReal (W k j)) (hb : ∀ j, IsReal (b j)) (j : Fin p) : IsReal (hidden h W b j) :=
  ((fin_sum fun k => (hh k).mul (hW k j)).add (hb j)).max fin_zero

/-- A finite value over anything but zero is finite: over an infinity it is zero. -/
theorem fin_div {x t : EReal} (hx : IsReal x) (ht : t ≠ 0) : IsReal (Ideal.div x t) := by
  rw [Ideal.div, if_neg ht]
  induction t with
  | bot => rw [EReal.inv_bot, mul_zero]; exact fin_zero
  | top => rw [EReal.inv_top, mul_zero]; exact fin_zero
  | coe r => rw [← EReal.coe_inv]; exact hx.mul (fin_coe _)

/-- A sum of reals is the real sum. -/
theorem coe_sum {n : ℕ} (f : Fin n → ℝ) : ((∑ k, f k : ℝ) : EReal) = ∑ k, (f k : EReal) :=
  map_sum (⟨⟨fun x : ℝ => (x : EReal), rfl⟩, EReal.coe_add⟩ : ℝ →+ EReal) f Finset.univ

/-- The softmax of finite scores is finite: the sum it divides by is of positive reals. -/
theorem fin_softmax {n : ℕ} {y : Fin (n + 1) → EReal} (hy : ∀ e, IsReal (y e)) (e : Fin (n + 1)) : IsReal (softmax y e) := by
  choose r hr using fun e => (hy e).exists_real
  obtain ⟨f, hf⟩ := exists_top y
  have hexp : ∀ e, Ideal.exp (y e - top y) = ((Real.exp (r e - r f) : ℝ) : EReal) := fun e => by
    rw [← hf, hr e, hr f, ← EReal.coe_sub]; rfl
  unfold softmax
  simp only [hexp]
  rw [← coe_sum]
  refine fin_div (fin_coe _) fun h0 => ?_
  have hpos : 0 < ∑ e', Real.exp (r e' - r f) :=
    Finset.sum_pos (fun e' _ => Real.exp_pos _) ⟨f, Finset.mem_univ f⟩
  exact hpos.ne' (by exact_mod_cast h0)

/-- Taking a finite value away and adding it back changes nothing. -/
theorem sub_add_back (h : EReal) {s : EReal} (hs : IsReal s) : h - s + s = h := by
  obtain ⟨r, rfl⟩ := hs.exists_real
  exact EReal.sub_add_cancel

/-! ## Constants -/

/-- The word of minus infinity is the least value. -/
theorem ofBits_neg_inf : Ideal.ofBits .f32 0xFF800000#32 = ⊥ := by simp [Ideal.ofBits, Ideal.ieee]

/-- The word of infinity is the greatest. -/
theorem ofBits_inf : Ideal.ofBits .f32 0x7F800000#32 = ⊤ := by simp [Ideal.ofBits, Ideal.ieee]

end Cert.Gate
-- ==== Proof.KernelLayers.lean ====
module

public import proofs.«01_k».proof.Proof.Value
public import proofs.«01_k».proof.Proof.Math
public import Idealize.ShloMosaic.Lib.MatmulPlain

/-! # The kernel's layers at the ideal values

What one block of the kernel computes, read at an index: the two hidden layers and the third product of one row of the
block. The array of logits gathers the blocks, so that its entry for an expert and a token is the logit of that token's
row at that expert. -/

@[expose] public section

set_option maxRecDepth 16384

noncomputable section

namespace Cert.KernelIdeal.Gate

open Cert.KernelIdeal.Gen
open Idealize.ShloMosaic Idealize.ShloMosaic.TcCoe
open Idealize.ShloMosaic.ValueIdx
open scoped BigOperators

/-! ## The products -/

/-- A product into zeros is the sum of products. -/
theorem product_zero {M K N : ℕ} (lhs : FVec Ideal ⟨2, ![M, K]⟩ .f32) (rhs : FVec Ideal ⟨2, ![K, N]⟩ .f32) (r : Fin M) (j : Fin N) :
    matmul (F := Ideal) (DotDims.plain M K N) none lhs rhs (constant ⟨2, ![M, N]⟩ .f32 0x00000000#32) (ix2 r j)
      = ∑ k, lhs (ix2 r k) * rhs (ix2 k j) := by
  refine (Ideal.matmul_plain_apply none lhs rhs _ r j).trans ?_
  show Ideal.ofBits .f32 0x00000000#32 + _ = _
  rw [Ideal.ofBits_zero_f32, zero_add]

/-- The three products of the kernel, each read so. -/
theorem product1 (x : FVec Ideal S2048x1024 .f32) (W : FVec Ideal S1024x512 .f32) (r : Fin 2048) (j : Fin 512) :
    matmul (F := Ideal) dot_S2048x1024_S1024x512_S2048x512_1_0_0_1_n_n none x W (constant S2048x512 .f32 0x00000000#32) (ix2 r j)
      = ∑ k, x (ix2 r k) * W (ix2 k j) := product_zero x W r j

theorem product2 (h : FVec Ideal S2048x512 .f32) (W : FVec Ideal S512x512 .f32) (r : Fin 2048) (j : Fin 512) :
    matmul (F := Ideal) dot_S2048x512_S512x512_S2048x512_1_0_0_1_n_n none h W (constant S2048x512 .f32 0x00000000#32) (ix2 r j)
      = ∑ k, h (ix2 r k) * W (ix2 k j) := product_zero h W r j

theorem product3 (h : FVec Ideal S2048x512 .f32) (W : FVec Ideal S512x1 .f32) (r : Fin 2048) (j : Fin 1) :
    matmul (F := Ideal) dot_S2048x512_S512x1_S2048x1_1_0_0_1_n_n none h W (constant S2048x1 .f32 0x00000000#32) (ix2 r j)
      = ∑ k, h (ix2 r k) * W (ix2 k j) := product_zero h W r j

/-- The layer's bias row, the same for every row of the block. -/
theorem bias_rows (b : FVec Ideal S1x512 .f32) (r : Fin 2048) (j : Fin 512) :
    broadcastTo S2048x512 b broadcasts_S1x512_S2048x512 (ix2 r j) = b (ix2 0 j) :=
  broadcastTo_apply b _ _ _ fun a => by fin_cases a <;> rfl

/-- One hidden layer on a block: whatever the product before the bias is. -/
theorem hidden_rows {K : ℕ} (h : FVec Ideal ⟨2, ![2048, K]⟩ .f32) (W : FVec Ideal ⟨2, ![K, 512]⟩ .f32) (b : FVec Ideal S1x512 .f32)
    (p : FVec Ideal S2048x512 .f32) (hp : ∀ r j, p (ix2 r j) = ∑ k, h (ix2 r k) * W (ix2 k j)) (r : Fin 2048) (j : Fin 512) :
    maximumf (addf p (broadcastTo S2048x512 b broadcasts_S1x512_S2048x512))
        (broadcast S2048x512 (Scalar.ofBits (F := Ideal) .f32 0x00000000#32)) (ix2 r j)
      = Cert.Gate.hidden (fun k => h (ix2 r k)) (fun k j => W (ix2 k j)) (fun j => b (ix2 0 j)) j := by
  show max (p (ix2 r j) + broadcastTo S2048x512 _ _ (ix2 r j)) (Ideal.ofBits .f32 0x00000000#32) = _
  rw [hp, bias_rows, Ideal.ofBits_zero_f32]
  rfl

/-- So the second layer's, of whatever the first left. -/
theorem second_rows (h : FVec Ideal S2048x512 .f32) (W : FVec Ideal S512x512 .f32) (b : FVec Ideal S1x512 .f32) (r : Fin 2048) (j : Fin 512) :
    maximumf (addf (matmul (F := Ideal) dot_S2048x512_S512x512_S2048x512_1_0_0_1_n_n none h W (constant S2048x512 .f32 0x00000000#32))
          (broadcastTo S2048x512 b broadcasts_S1x512_S2048x512))
        (broadcast S2048x512 (Scalar.ofBits (F := Ideal) .f32 0x00000000#32)) (ix2 r j)
      = Cert.Gate.hidden (fun k => h (ix2 r k)) (fun k j => W (ix2 k j)) (fun j => b (ix2 0 j)) j :=
  hidden_rows h W b _ (fun r j => product2 h W r j) r j

/-! ## One block -/

/-- Entry (expert, token) of a block is the logit of the row of that token and expert. -/
theorem pay1_apply (x : Vec Ideal S2048x1024 .f32) (W1 : Vec Ideal S1024x512 .f32) (b1 : Vec Ideal S1x512 .f32)
    (W2 : Vec Ideal S512x512 .f32) (b2 : Vec Ideal S1x512 .f32) (W3 : Vec Ideal S512x1 .f32) (e : Fin 8) (q : Fin 256) :
    k0_pay1 (F := Ideal) x W1 b1 W2 b2 W3 (ix2 e q)
      = Cert.Gate.logit (fun k => x (ix2 ⟨8 * q.val + e.val, by omega⟩ k)) (fun k j => W1 (ix2 k j)) (fun j => b1 (ix2 0 j))
          (fun k j => W2 (ix2 k j)) (fun j => b2 (ix2 0 j)) (fun k => W3 (ix2 k 0)) := by
  unfold k0_pay1
  simp only [shapeCast_self]
  refine (transpose_apply _ _ _ _ (ix2 q e) fun b => by fin_cases b <;> rfl).trans ?_
  refine (shapeCast_apply _ _ _ (ix2 ⟨8 * q.val + e.val, by omega⟩ 0) (by
    rw [Shape.rowMajor_val_two, Shape.rowMajor_val_two]
    show (8 * q.val + e.val) * 1 + 0 = q.val * 8 + e.val
    omega)).trans ?_
  refine (product3 _ W3 _ 0).trans ?_
  refine Finset.sum_congr rfl fun k _ => congrArg (· * W3 (ix2 k 0)) ?_
  refine (second_rows _ W2 b2 _ k).trans ?_
  refine congrArg (fun h => Cert.Gate.hidden h (fun k j => W2 (ix2 k j)) (fun j => b2 (ix2 0 j)) k) (funext fun i => ?_)
  exact hidden_rows x W1 b1 _ (fun r j => product1 x W1 r j) _ i

/-! ## All of them -/

variable (m : (ℓ : Loc nD τ sig) → Buf (Elt Ideal) ℓ)

/-- The logit of a token's row at an expert, before the last bias, from the arguments. -/
def tokenLogit (c : Dev nD) (q : Fin 2048) (e : Fin 8) : EReal :=
  Cert.Gate.logit (fun k => m ((c : Thread nD τ).loc main_arg0) (ix3 q e k))
    (fun k j => m ((c : Thread nD τ).loc main_arg1) (ix2 k j)) (fun j => m ((c : Thread nD τ).loc main_arg2) (ix1 j))
    (fun k j => m ((c : Thread nD τ).loc main_arg3) (ix2 k j)) (fun j => m ((c : Thread nD τ).loc main_arg4) (ix1 j))
    (fun k => m ((c : Thread nD τ).loc main_arg5) (ix2 k 0))

/-- The array of logits holds them, experts by tokens. -/
theorem logits_apply (c : Dev nD) (e : Fin 8) (q : Fin 2048) : logits m c (ix2 e q) = tokenLogit m c q e := by
  show block m c (pointOf q) (ix2 e ⟨q.val % 256, _⟩) = _
  unfold block
  rw [pay1_apply]
  rw [weights1, weights2, weights3]
  simp only [hidden1, hidden2, tokens]
  unfold tokenLogit
  have hp : (pointOf q).val = q.val / 256 := rfl
  have hq : ∀ k : Fin 1024, (ix3 ⟨256 * (pointOf q).val + (8 * (q.val % 256) + e.val) / 8, by have := lt_eight (pointOf q); omega⟩
      ⟨(8 * (q.val % 256) + e.val) % 8, by omega⟩ k : S2048x8x1024.Idx) = ix3 q e k := fun k => by
    congr 1 <;> apply Fin.ext <;> simp only [hp] <;> omega
  simp only [hq]

end Cert.KernelIdeal.Gate
-- ==== Proof.First.lean ====
module

public import proofs.«01_k».proof.Proof.Math

/-! # The first largest of eight values, found two ways

The kernel takes the smallest of the positions at which a value is the largest, with eight standing for a position at
which it isn't. The reference goes through the pairs of a value and its position and keeps the better of two: the larger
value, and of equal values the earlier position. Both give the first position at which the family is largest, in whatever
order the positions are gone through. -/

@[expose] public section

noncomputable section

namespace Cert.Gate

open Idealize.ShloMosaic

/-- A choice on a truth value is a conditional. -/
theorem select_ofBool {α : Type} (b : Bool) (x y : α) : Scalar.select (BitVec.ofBool b) x y = if b then x else y := by
  cases b <;> rfl

/-- A position below eight as a word is that number. -/
theorem toInt_position (e : Fin 8) : (BitVec.ofNat 32 e.val).toInt = e.val := by revert e; decide

/-- Two positions are the same if their words are. -/
theorem position_injective {e f : Fin 8} (h : BitVec.ofNat 32 e.val = BitVec.ofNat 32 f.val) : e = f := by
  have h' := congrArg BitVec.toInt h
  rw [toInt_position, toInt_position] at h'
  exact Fin.ext (by exact_mod_cast h')

/-! ## The smallest position -/

/-- The smaller of two words is one of them and at most either. -/
theorem minsi_spec (x y : BitVec 32) : (IntOp.minsi x y = x ∨ IntOp.minsi x y = y)
    ∧ (IntOp.minsi x y).toInt ≤ x.toInt ∧ (IntOp.minsi x y).toInt ≤ y.toInt := by
  unfold IntOp.minsi
  by_cases h : x.slt y = true
  · rw [if_pos h]; rw [BitVec.slt_iff_toInt_lt] at h; exact ⟨Or.inl rfl, le_rfl, h.le⟩
  · rw [if_neg h]; rw [BitVec.slt_iff_toInt_lt, not_lt] at h; exact ⟨Or.inr rfl, h, le_rfl⟩

/-- The smallest of some words and a first one is one of them and at most each. -/
theorem fold_minsi_spec {n : ℕ} (v : Fin n → BitVec 32) (z : BitVec 32) (s : Finset (Fin n)) :
    (s.fold IntOp.minsi z v = z ∨ ∃ e ∈ s, s.fold IntOp.minsi z v = v e) ∧ ∀ e ∈ s, (s.fold IntOp.minsi z v).toInt ≤ (v e).toInt := by
  classical
  induction s using Finset.induction_on with
  | empty => exact ⟨Or.inl Finset.fold_empty, fun e he => absurd he (Finset.notMem_empty e)⟩
  | insert a s ha ih =>
    rw [Finset.fold_insert ha]
    obtain ⟨hc, hl, hr⟩ := minsi_spec (v a) (s.fold IntOp.minsi z v)
    refine ⟨?_, fun e he => ?_⟩
    · rcases hc with h | h
      · exact Or.inr ⟨a, Finset.mem_insert_self a s, h⟩
      · rw [h]
        exact ih.1.imp id fun ⟨e, he, h⟩ => ⟨e, Finset.mem_insert_of_mem he, h⟩
    · rcases Finset.mem_insert.mp he with rfl | he
      · exact hl
      · exact hr.trans (ih.2 e he)

open Classical in
/-- The smallest of the positions at which the family is largest, eight for the others, is the first of them. -/
theorem min_positions {p : Fin 8 → EReal} {f : Fin 8} (hf : IsFirst p f) :
    Finset.univ.fold IntOp.minsi 2147483647#32 (fun e : Fin 8 => if p e = top p then BitVec.ofNat 32 e.val else 8#32)
      = BitVec.ofNat 32 f.val := by
  obtain ⟨hc, hle⟩ := fold_minsi_spec (fun e : Fin 8 => if p e = top p then BitVec.ofNat 32 e.val else 8#32) 2147483647#32 Finset.univ
  have h := hle f (Finset.mem_univ f)
  simp only [if_pos hf.1, toInt_position] at h
  have hf8 := f.isLt
  rcases hc with hc | ⟨e, _, hc⟩
  · rw [hc] at h
    exact absurd h (by rw [show (2147483647#32).toInt = 2147483647 from by decide]; omega)
  · rw [hc] at h ⊢
    by_cases he : p e = top p
    · simp only [if_pos he, toInt_position] at h ⊢
      rw [le_antisymm (hf.2 e he) (Fin.le_def.mpr (by exact_mod_cast h))]
    · simp only [if_neg he] at h
      exact absurd h (by rw [show (8#32).toInt = 8 from by decide]; omega)

/-! ## The better of two pairs -/

/-- Of two pairs the one with the larger value, and at equal values the one with the smaller word. -/
def Beats (r q : EReal × BitVec 32) : Prop := q.1 < r.1 ∨ (q.1 = r.1 ∧ r.2.toInt ≤ q.2.toInt)

theorem Beats.refl (r : EReal × BitVec 32) : Beats r r := Or.inr ⟨rfl, le_rfl⟩

theorem Beats.trans {r q s : EReal × BitVec 32} (h : Beats r q) (h' : Beats q s) : Beats r s := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- A step keeps one of its two pairs, and one that is no worse than either. -/
def Keeps (g : EReal × BitVec 32 → EReal × BitVec 32 → EReal × BitVec 32) : Prop :=
  ∀ a b, (g a b = a ∨ g a b = b) ∧ Beats (g a b) a ∧ Beats (g a b) b

/-- Going through a list by such steps ends at the starting pair or one of the list, no worse than any of them. -/
theorem foldl_keeps {g : EReal × BitVec 32 → EReal × BitVec 32 → EReal × BitVec 32} (hg : Keeps g) (l : List (EReal × BitVec 32))
    (z : EReal × BitVec 32) : (l.foldl g z = z ∨ l.foldl g z ∈ l) ∧ Beats (l.foldl g z) z ∧ ∀ q ∈ l, Beats (l.foldl g z) q := by
  induction l generalizing z with
  | nil => exact ⟨Or.inl rfl, Beats.refl z, fun q hq => absurd hq (List.not_mem_nil)⟩
  | cons a l ih =>
    obtain ⟨hc, hz, hl⟩ := ih (g z a)
    obtain ⟨hk, h1, h2⟩ := hg z a
    rw [List.foldl_cons]
    refine ⟨?_, hz.trans h1, fun q hq => ?_⟩
    · rcases hc with hc | hc
      · rw [hc]
        rcases hk with hk | hk
        · exact Or.inl hk
        · rw [hk]; exact Or.inr (List.mem_cons_self)
      · exact Or.inr (List.mem_cons_of_mem a hc)
    · rcases List.mem_cons.mp hq with rfl | hq
      · exact hz.trans h2
      · exact hl q hq

/-- From minus infinity at position zero, through the pairs of the eight values and their positions, it ends at the first
    position at which the family is largest. -/
theorem best_position {g : EReal × BitVec 32 → EReal × BitVec 32 → EReal × BitVec 32} (hg : Keeps g) {p : Fin 8 → EReal} {f : Fin 8}
    (hf : IsFirst p f) (l : List (EReal × BitVec 32)) (hl : ∀ q, q ∈ l ↔ ∃ e : Fin 8, q = (p e, BitVec.ofNat 32 e.val)) :
    (l.foldl g (⊥, 0#32)).2 = BitVec.ofNat 32 f.val := by
  obtain ⟨hc, _, hb⟩ := foldl_keeps hg l (⊥, 0#32)
  have h := hb _ ((hl _).mpr ⟨f, rfl⟩)
  rcases hc with hc | hc
  · rw [hc] at h ⊢
    have hbot : p f = ⊥ := h.elim (fun h => absurd h not_lt_bot) fun h => h.1
    have h0 : f ≤ 0 := hf.2 0 (by rw [← hf.1, hbot]; exact le_bot_iff.mp (((le_top p 0).trans hf.1.ge).trans hbot.le))
    rw [Fin.le_zero_iff.mp h0]
    rfl
  · obtain ⟨e, he⟩ := (hl _).mp hc
    rw [he] at h ⊢
    rcases h with h | ⟨h, k⟩
    · exact absurd h (not_lt.mpr (hf.1 ▸ le_top p e))
    · have k' : e.val ≤ f.val := by
        have k'' : (BitVec.ofNat 32 e.val).toInt ≤ (BitVec.ofNat 32 f.val).toInt := k
        rw [toInt_position, toInt_position] at k''
        exact_mod_cast k''
      have h' : p f = p e := h
      rw [le_antisymm (Fin.le_def.mpr k') (hf.2 e (h' ▸ hf.1))]

end Cert.Gate
-- ==== Proof.KernelSoft.lean ====
module

public import proofs.«01_k».proof.Proof.KernelLayers
public import proofs.«01_k».proof.Proof.First

/-! # The kernel's two results at the ideal values

From the array of logits the kernel makes the softmax over the experts and the table with a one at each token's first
largest expert. The kernel multiplies by one over the temperature; where the temperature isn't zero that is division by
it. -/

@[expose] public section

set_option maxRecDepth 16384

noncomputable section

namespace Cert.KernelIdeal.Gate

open Cert.KernelIdeal.Gen
open Idealize.ShloMosaic Idealize.ShloMosaic.TcCoe
open Idealize.ShloMosaic.ValueIdx
open scoped BigOperators

/-! ## Down the experts -/

/-- A column's entry at an expert, under the column's index. -/
theorem lift_column (q : Fin 2048) (e : Fin 8) : (reduces_S8x2048_S2048).lift (ix1 q) e = ix2 e q := by
  funext a; fin_cases a <;> rfl

/-- A value per token, read back over the experts. -/
theorem over_experts {α : Type} (r : S2048.Idx → α) (e : Fin 8) (q : Fin 2048) :
    broadcastTo S8x2048 (shapeCast S1x2048 r shapeCasts_S2048_S1x2048) broadcasts_S1x2048_S8x2048 (ix2 e q) = r (ix1 q) := by
  refine (broadcastTo_apply _ _ _ (ix2 0 q) fun a => by fin_cases a <;> rfl).trans ?_
  refine shapeCast_apply _ _ _ _ ?_
  rw [Shape.rowMajor_val_one, Shape.rowMajor_val_two]
  show q.val = 0 * 2048 + q.val
  omega

/-- The largest entry of a column. -/
theorem column_top (y : FVec Ideal S8x2048 .f32) (q : Fin 2048) :
    multiReduction (F := Ideal) .maximumf [0] S2048 y 0xFF800000#32 reduces_S8x2048_S2048 (.inl rfl) rfl (ix1 q)
      = Cert.Gate.top fun e => y (ix2 e q) := by
  refine (Ideal.multiReduction_maximumf_single y _ _ _ _ (ix1 q)).trans ?_
  show Finset.fold max (Ideal.ofBits .f32 0xFF800000#32) _ _ = _
  rw [Cert.Gate.ofBits_neg_inf]
  exact congrArg (fun h => Finset.fold max ⊥ h Finset.univ) (funext fun e => congrArg y (lift_column q e))

/-- The sum of a column. -/
theorem column_sum (y : FVec Ideal S8x2048 .f32) (q : Fin 2048) :
    multiReduction (F := Ideal) .add [0] S2048 y 0x00000000#32 reduces_S8x2048_S2048 (.inl rfl) rfl (ix1 q) = ∑ e, y (ix2 e q) := by
  exact (Ideal.multiReduction_add_single y _ _ _ _ (ix1 q)).trans (Finset.sum_congr rfl fun e _ => congrArg y (lift_column q e))

/-- The smallest word of a column. -/
theorem column_min (y : IVec S8x2048 32) (q : Fin 2048) :
    multiReductionI .minsi [0] S2048 y 2147483647#32 reduces_S8x2048_S2048 rfl (ix1 q)
      = Finset.univ.fold IntOp.minsi 2147483647#32 fun e : Fin 8 => y (ix2 e q) := by
  refine (multiReductionI_eq_fold .minsi y _ _ _ (ix1 q)).trans ?_
  refine (reduces_S8x2048_S2048.fold_filter_drop_single IKind.minsi.op _ y (ix1 q)).trans ?_
  exact congrArg (fun h => Finset.fold IntOp.minsi 2147483647#32 h Finset.univ) (funext fun e => congrArg y (lift_column q e))

/-! ## The softmax -/

/-- A softmax down the columns, entry by entry. -/
theorem columns_softmax (y : FVec Ideal S8x2048 .f32) (e : Fin 8) (q : Fin 2048) :
    divf (F := Ideal)
        (exp (subf y (broadcastTo S8x2048 (shapeCast S1x2048 (multiReduction .maximumf [0] S2048 y 0xFF800000#32 reduces_S8x2048_S2048 (.inl rfl) rfl)
          shapeCasts_S2048_S1x2048) broadcasts_S1x2048_S8x2048)))
        (broadcastTo S8x2048 (shapeCast S1x2048 (multiReduction .add [0] S2048
          (exp (subf y (broadcastTo S8x2048 (shapeCast S1x2048 (multiReduction .maximumf [0] S2048 y 0xFF800000#32 reduces_S8x2048_S2048 (.inl rfl) rfl)
            shapeCasts_S2048_S1x2048) broadcasts_S1x2048_S8x2048)))
          0x00000000#32 reduces_S8x2048_S2048 (.inl rfl) rfl) shapeCasts_S2048_S1x2048) broadcasts_S1x2048_S8x2048) (ix2 e q)
      = Cert.Gate.softmax (fun e => y (ix2 e q)) e := by
  have hexp : ∀ e, exp (F := Ideal) (subf y (broadcastTo S8x2048 (shapeCast S1x2048 (multiReduction .maximumf [0] S2048 y 0xFF800000#32
      reduces_S8x2048_S2048 (.inl rfl) rfl) shapeCasts_S2048_S1x2048) broadcasts_S1x2048_S8x2048)) (ix2 e q)
      = Ideal.exp (y (ix2 e q) - Cert.Gate.top fun e => y (ix2 e q)) := fun e => by
    show Ideal.exp (y (ix2 e q) - broadcastTo S8x2048 _ _ (ix2 e q)) = _
    rw [over_experts, column_top]
  refine (congrArg₂ Ideal.div (hexp e) ((over_experts _ e q).trans (column_sum _ q))).trans ?_
  simp only [hexp]
  rfl

/-- Entry (expert, token) of the soft result: the softmax of the token's logits with the bias added, over the temperature. -/
theorem pay2_apply (b t : Vec Ideal S1x1 .f32) (y : Vec Ideal S8x2048 .f32) (ht : t (ix2 0 0) ≠ 0) (e : Fin 8) (q : Fin 2048) :
    k0_pay2 (F := Ideal) b t y (ix2 e q) = Cert.Gate.softmax (fun e => Ideal.div (y (ix2 e q) + b (ix2 0 0)) (t (ix2 0 0))) e := by
  unfold k0_pay2
  refine (columns_softmax _ e q).trans (congrArg (fun s => Cert.Gate.softmax s e) (funext fun e => ?_))
  have hb : extractAt ![0, 0] b inpos_S1x1_p0_0 = b (ix2 0 0) := congrArg b (funext fun a => by fin_cases a <;> rfl)
  have hd : extractAt ![0, 0] t inpos_S1x1_p0_0 = t (ix2 0 0) := congrArg t (funext fun a => by fin_cases a <;> rfl)
  show (y (ix2 e q) + extractAt ![0, 0] b inpos_S1x1_p0_0)
      * Ideal.div (Ideal.ofBits .f32 0x3F800000#32) (extractAt ![0, 0] t inpos_S1x1_p0_0) = _
  rw [hb, hd, Ideal.ofBits_one_f32, Ideal.mul_one_div ht]

/-! ## The hard result -/

/-- Entry (expert, token) of the hard result: one where the expert is the token's first largest of the soft result. -/
theorem pay3_apply (b t : Vec Ideal S1x1 .f32) (y : Vec Ideal S8x2048 .f32) (e : Fin 8) (q : Fin 2048) :
    k0_pay3 (F := Ideal) b t y (ix2 e q) = Cert.Gate.oneHot (fun e => k0_pay2 (F := Ideal) b t y (ix2 e q)) e := by
  unfold k0_pay3
  generalize k0_pay2 (F := Ideal) b t y = p
  obtain ⟨f, hf⟩ := Cert.Gate.exists_first fun e => p (ix2 e q)
  have hi : ∀ e : Fin 8, iota .tc S8x2048 32 [0] iota_S8x2048_d0_w32 (ix2 e q) = BitVec.ofNat 32 e.val := fun e => by
    show BitVec.ofNat 32 (0 * 8 + e.val) = _
    rw [Nat.zero_mul, Nat.zero_add]
  have hmin := Cert.Gate.min_positions hf
  rw [Cert.Gate.oneHot_eq hf]
  refine (congrArg (fun k => Scalar.select (IntOp.cmpi .eq (iota .tc S8x2048 32 [0] iota_S8x2048_d0_w32 (ix2 e q)) k)
    (Ideal.ofBits .f32 0x3F800000#32) (Ideal.ofBits .f32 0x00000000#32))
    (((over_experts _ e q).trans (column_min _ q)).trans (Eq.trans ?_ hmin))).trans ?_
  · refine congrArg (fun h => Finset.fold IntOp.minsi 2147483647#32 h Finset.univ) (funext fun e => ?_)
    show Scalar.select (BitVec.ofBool (decide (p (ix2 e q) = broadcastTo S8x2048 _ _ (ix2 e q))))
      (iota .tc S8x2048 32 [0] iota_S8x2048_d0_w32 (ix2 e q)) 8#32 = _
    rw [Cert.Gate.select_ofBool, over_experts, column_top, hi]
    simp only [decide_eq_true_eq]
  · rw [hi, Ideal.ofBits_one_f32, Ideal.ofBits_zero_f32]
    show Scalar.select (BitVec.ofBool (BitVec.ofNat 32 e.val == BitVec.ofNat 32 f.val)) (1 : EReal) 0 = _
    rw [Cert.Gate.select_ofBool]
    by_cases h : e = f
    · rw [if_pos h, h, if_pos (beq_self_eq_true _)]
    · rw [if_neg h, if_neg fun h' => h (Cert.Gate.position_injective (eq_of_beq h'))]

/-! ## From the arguments -/

variable (m : (ℓ : Loc nD τ sig) → Buf (Elt Ideal) ℓ)

/-- The temperature. -/
def temperature (c : Dev nD) : EReal := m ((c : Thread nD τ).loc main_arg7) ix0

/-- A token's score at an expert: its logit and the last bias, over the temperature. -/
def score (c : Dev nD) (q : Fin 2048) (e : Fin 8) : EReal :=
  Ideal.div (tokenLogit m c q e + m ((c : Thread nD τ).loc main_arg6) (ix1 0)) (temperature m c)

/-- The soft result holds the softmax of the scores. -/
theorem softArray_apply (c : Dev nD) (ht : temperature m c ≠ 0) (e : Fin 8) (q : Fin 2048) :
    softArray m c (ix2 e q) = Cert.Gate.softmax (score m c q) e := by
  unfold softArray
  rw [pay2_apply _ _ _ (by rw [divisor]; exact ht)]
  refine congrArg (fun s => Cert.Gate.softmax s e) (funext fun e => ?_)
  rw [last_bias, divisor, logits_apply]
  rfl

/-- The hard result holds a one at the first largest of them. -/
theorem hardArray_apply (c : Dev nD) (ht : temperature m c ≠ 0) (e : Fin 8) (q : Fin 2048) :
    hardArray m c (ix2 e q) = Cert.Gate.oneHot (Cert.Gate.softmax (score m c q)) e := by
  unfold hardArray
  rw [pay3_apply]
  exact congrArg (fun s => Cert.Gate.oneHot s e) (funext fun e => softArray_apply m c ht e q)

end Cert.KernelIdeal.Gate
-- ==== Proof.Conditions.lean ====
module

public import proofs.«01_k».proof.Defs
public import proofs.«01_k».proof.Proof.KernelSoft

/-! # What the preconditions say

The claims' preconditions are arrays of truth values computed from the arguments. Here they are read as statements: the
temperature isn't zero; no entry of the seven arrays is an infinity. From the second it follows that every score, and so
every entry of the softmax, is a real number. -/

@[expose] public section

set_option maxRecDepth 4096

noncomputable section

namespace Cert.Conditions

open Idealize.ShloMosaic Idealize.ShloMosaic.TcCoe
open Idealize.ShloMosaic.ValueIdx
open Cert.Gate (IsReal)

/-! ## The shapes the conditions are computed on -/

theorem finite_facts : Cert.Pre_finite_arguments.Facts := ⟨by decide, by decide, by decide, by decide, by decide, by decide⟩
theorem nonzero_facts : Cert.Pre_nonzero_temperature.Facts := ⟨⟩
theorem mask_facts : Cert.On_soft_everywhere.Facts := ⟨by decide⟩

/-! ## Reading them -/

/-- A value whose absolute value is below infinity is a real number. -/
theorem real_of_abs {x : EReal} (h : Ideal.cmp .olt (max x (-x)) (Ideal.ofBits .f32 0x7F800000#32) = 1#1) : IsReal x := by
  rw [Cert.Gate.ofBits_inf] at h
  have h' : max x (-x) < ⊤ := by
    by_contra hn
    have h0 : Ideal.cmp .olt (max x (-x)) ⊤ = 0#1 := congrArg BitVec.ofBool (decide_eq_false hn)
    exact absurd (h0.symm.trans h) (by decide)
  refine ⟨fun hx => ?_, fun hx => ?_⟩
  · rw [hx] at h'; exact absurd h' (not_lt.mpr (le_max_left _ _))
  · rw [hx, EReal.neg_bot] at h'; exact absurd h' (not_lt.mpr (le_max_right _ _))

/-- An array is of real numbers if the comparison of its absolute values with infinity holds everywhere. -/
theorem real_of_all {s : Shape} (hb : (⟨0, ![]⟩ : Shape).BroadcastsInDim s ![]) {x : FVec Ideal s .f32}
    (h : cmpf (F := Ideal) .olt (Host.absf x) (broadcastInDim (s := ⟨0, ![]⟩) s ![] hb (constant (F := Ideal) ⟨0, ![]⟩ .f32 0x7F800000#32)) = fun _ => 1#1)
    (i : s.Idx) : IsReal (x i) := by
  have hi := congrFun h i
  refine real_of_abs (Eq.trans ?_ hi)
  show _ = Ideal.cmp .olt (max (x i) (-(x i))) (broadcastInDim (s := ⟨0, ![]⟩) s ![] hb _ i)
  rw [broadcastInDim_scalar_apply]
  rfl

/-- A value the comparison finds different from zero isn't zero. -/
theorem ne_zero_of_une {t : EReal} (h : Ideal.cmp .une t (Ideal.ofBits .f32 0x00000000#32) = 1#1) : t ≠ 0 := by
  intro ht
  rw [ht, Ideal.ofBits_zero_f32] at h
  have h0 : Ideal.cmp .une (0 : EReal) 0 = 0#1 := congrArg BitVec.ofBool (decide_eq_false fun hne => hne rfl)
  exact absurd (h0.symm.trans h) (by decide)

open Cert.KernelIdeal Cert.KernelIdeal.Gate

variable (m : (ℓ : Loc Cert.KernelIdeal.nD Cert.KernelIdeal.τ Cert.KernelIdeal.sig) → Buf (Elt Ideal) ℓ)

/-- The first condition: the temperature isn't zero. -/
theorem temperature_ne_zero (h : Cert.Pre_KernelIdeal_nonzero_temperature (hPre_nonzero_temperature := nonzero_facts) m)
    (c : Dev Cert.KernelIdeal.nD) : temperature m c ≠ 0 := ne_zero_of_une (congrFun (h c) ix0)

/-- The second condition holds it too. -/
theorem finite_temperature_ne_zero (h : Cert.Pre_KernelIdeal_finite_arguments (hPre_finite_arguments := finite_facts) m)
    (c : Dev Cert.KernelIdeal.nD) : temperature m c ≠ 0 := ne_zero_of_une (congrFun (h c).2.2.2.2.2.2.2 ix0)

/-- Under the second condition every score is a real number, -/
theorem score_real (h : Cert.Pre_KernelIdeal_finite_arguments (hPre_finite_arguments := finite_facts) m)
    (c : Dev Cert.KernelIdeal.nD) (q : Fin 2048) (e : Fin 8) : IsReal (score m c q e) := by
  obtain ⟨h0, h1, h2, h3, h4, h5, h6, _⟩ := h c
  refine Cert.Gate.fin_div (IsReal.add (Cert.Gate.fin_sum fun k => IsReal.mul ?_ ?_) ?_) (finite_temperature_ne_zero m h c)
  · exact Cert.Gate.fin_hidden (fun j => Cert.Gate.fin_hidden (fun i => real_of_all finite_facts.bcast_S_S2048x8x1024 h0 _)
      (fun i j => real_of_all finite_facts.bcast_S_S1024x512 h1 _) (fun j => real_of_all finite_facts.bcast_S_S512 h2 _) j)
      (fun i j => real_of_all finite_facts.bcast_S_S512x512 h3 _) (fun j => real_of_all finite_facts.bcast_S_S512 h4 _) k
  · exact real_of_all finite_facts.bcast_S_S512x1 h5 _
  · exact real_of_all finite_facts.bcast_S_S1 h6 _

/-- and so is every entry of the softmax. -/
theorem softmax_real (h : Cert.Pre_KernelIdeal_finite_arguments (hPre_finite_arguments := finite_facts) m)
    (c : Dev Cert.KernelIdeal.nD) (q : Fin 2048) (e : Fin 8) : IsReal (Cert.Gate.softmax (score m c q) e) :=
  Cert.Gate.fin_softmax (score_real m h c q) e

end Cert.Conditions
-- ==== Proof.RefLayers.lean ====
module

public import proofs.«01_k».proof.Proof.Ref
public import proofs.«01_k».proof.Proof.Math
public import Idealize.ShloMosaic.Lib.Pipeline.Value
public import Idealize.ShloMosaic.Lib.ValueIdx

/-! # The reference's layers at the ideal values

The three products, biases and the division by the temperature, read at a token and an expert: the same logit and score as
the kernel's, of the same row. -/

@[expose] public section

set_option maxRecDepth 4096

noncomputable section

namespace Cert.ReferenceIdeal.Gate

open Cert.ReferenceIdeal.Gen
open Idealize.ShloMosaic Idealize.ShloMosaic.TcCoe
open Idealize.ShloMosaic.ValueIdx
open scoped BigOperators

/-! ## The products -/

/-- A product along the last axis of a table of rows per token and expert, for dimension numbers whose operand positions are
    those of such a product. -/
theorem product_rows {K N : ℕ} (D : DotDims ⟨3, ![2048, 8, K]⟩ ⟨2, ![K, N]⟩ ⟨3, ![2048, 8, N]⟩) (hr : D.contr.rank = 1)
    (hs : D.contr.size ⟨0, by omega⟩ = K) (h0 : ∀ j k, (D.lhsIdx j k 0).val = (j 0).val) (h1 : ∀ j k, (D.lhsIdx j k 1).val = (j 1).val)
    (h2 : ∀ j k, (D.lhsIdx j k 2).val = (k ⟨0, by omega⟩).val) (g0 : ∀ j k, (D.rhsIdx j k 0).val = (k ⟨0, by omega⟩).val)
    (g1 : ∀ j k, (D.rhsIdx j k 1).val = (j 2).val) (l : FVec Ideal ⟨3, ![2048, 8, K]⟩ .f32) (r : FVec Ideal ⟨2, ![K, N]⟩ .f32)
    (q : Fin 2048) (e : Fin 8) (n : Fin N) :
    Host.dotGeneral (F := Ideal) (φ₁ := .f32) (φ₂ := .f32) D none l r (ix3 q e n) = ∑ k, l (ix3 q e k) * r (ix2 k n) := by
  refine (Ideal.dotGeneral_apply D none _ l r (ix3 q e n)).trans ?_
  rw [← Equiv.sum_comp (contrEquiv1 D K hr hs).symm]
  refine Finset.sum_congr rfl fun k _ => ?_
  have hk := contrEquiv1_symm_val D K hr hs k
  refine congrArg₂ (· * ·) (congrArg l (funext fun a => Fin.ext ?_)) (congrArg r (funext fun a => Fin.ext ?_))
  · match a with
    | ⟨0, _⟩ => exact h0 _ _
    | ⟨1, _⟩ => exact h1 _ _
    | ⟨2, _⟩ => exact (h2 _ _).trans hk
  · match a with
    | ⟨0, _⟩ => exact (g0 _ _).trans hk
    | ⟨1, _⟩ => exact g1 _ _

/-- The bias of a hidden layer, the same for every token and expert. -/
theorem biasHidden_apply (b : FVec Ideal S512 .f32) (q : Fin 2048) (e : Fin 8) (j : Fin 512) : biasHidden b (ix3 q e j) = b (ix1 j) := by
  unfold biasHidden
  exact (broadcastInDim_apply _ _ _ _ (ix3 0 0 j) fun a => by fin_cases a <;> rfl).trans
    (broadcastInDim_apply _ _ _ _ (ix1 j) fun a => by fin_cases a; rfl)

/-- The larger of a value and zero. -/
theorem relu_apply (h : FVec Ideal S2048x8x512 .f32) (i : S2048x8x512.Idx) : relu h i = max (h i) 0 := by
  show max (h i) (broadcastInDim S2048x8x512 ![] bcast_S_S2048x8x512 (constant (F := Ideal) S_ .f32 0x00000000#32) i) = _
  rw [broadcastInDim_scalar_apply]
  exact congrArg (max (h i)) Ideal.ofBits_zero_f32

/-! ## The layers -/

/-- The first hidden layer. -/
theorem layer1_apply (x : FVec Ideal S2048x8x1024 .f32) (W : FVec Ideal S1024x512 .f32) (b : FVec Ideal S512 .f32) (q : Fin 2048)
    (e : Fin 8) (j : Fin 512) : layer1 x W b (ix3 q e j)
      = Cert.Gate.hidden (fun k => x (ix3 q e k)) (fun k j => W (ix2 k j)) (fun j => b (ix1 j)) j := by
  unfold layer1
  rw [relu_apply]
  refine congrArg (max · 0) (congrArg₂ (· + ·) ?_ (biasHidden_apply b q e j))
  exact product_rows dot_S2048x8x1024_S1024x512_S2048x8x512_2_0_01_1_n_n rfl rfl (fun _ _ => rfl) (fun _ _ => rfl) (fun _ _ => rfl)
    (fun _ _ => rfl) (fun _ _ => rfl) x W q e j

/-- The second. -/
theorem layer2_apply (h : FVec Ideal S2048x8x512 .f32) (W : FVec Ideal S512x512 .f32) (b : FVec Ideal S512 .f32) (q : Fin 2048)
    (e : Fin 8) (j : Fin 512) : layer2 h W b (ix3 q e j)
      = Cert.Gate.hidden (fun k => h (ix3 q e k)) (fun k j => W (ix2 k j)) (fun j => b (ix1 j)) j := by
  unfold layer2
  rw [relu_apply]
  refine congrArg (max · 0) (congrArg₂ (· + ·) ?_ (biasHidden_apply b q e j))
  exact product_rows dot_S2048x8x512_S512x512_S2048x8x512_2_0_01_1_n_n rfl rfl (fun _ _ => rfl) (fun _ _ => rfl) (fun _ _ => rfl)
    (fun _ _ => rfl) (fun _ _ => rfl) h W q e j

/-- The third: a product and the one bias. -/
theorem layer3_apply (h : FVec Ideal S2048x8x512 .f32) (W : FVec Ideal S512x1 .f32) (b : FVec Ideal S1 .f32) (q : Fin 2048) (e : Fin 8) :
    layer3 h W b (ix3 q e 0) = ∑ k, h (ix3 q e k) * W (ix2 k 0) + b (ix1 0) := by
  unfold layer3
  refine congrArg₂ (· + ·) ?_ ?_
  · exact product_rows dot_S2048x8x512_S512x1_S2048x8x1_2_0_01_1_n_n rfl rfl (fun _ _ => rfl) (fun _ _ => rfl) (fun _ _ => rfl)
      (fun _ _ => rfl) (fun _ _ => rfl) h W q e 0
  · exact (broadcastInDim_apply _ _ _ _ (ix3 0 0 0) fun a => by fin_cases a <;> rfl).trans
      (broadcastInDim_apply _ _ _ _ (ix1 0) fun a => by fin_cases a; rfl)

/-- The logit and the last bias over the temperature. -/
theorem scaled_apply (x : FVec Ideal S2048x8x1024 .f32) (W1 : FVec Ideal S1024x512 .f32) (b1 : FVec Ideal S512 .f32)
    (W2 : FVec Ideal S512x512 .f32) (b2 : FVec Ideal S512 .f32) (W3 : FVec Ideal S512x1 .f32) (b3 : FVec Ideal S1 .f32)
    (t : FVec Ideal S_ .f32) (q : Fin 2048) (e : Fin 8) : scaled x W1 b1 W2 b2 W3 b3 t (ix3 q e 0)
      = Ideal.div (Cert.Gate.logit (fun k => x (ix3 q e k)) (fun k j => W1 (ix2 k j)) (fun j => b1 (ix1 j)) (fun k j => W2 (ix2 k j))
          (fun j => b2 (ix1 j)) (fun k => W3 (ix2 k 0)) + b3 (ix1 0)) (t ix0) := by
  unfold scaled
  rw [hostDivf_apply, broadcastInDim_scalar_apply, layer3_apply]
  simp only [layer2_apply, layer1_apply]
  rfl

end Cert.ReferenceIdeal.Gate
-- ==== Proof.RefSoft.lean ====
module

public import proofs.«01_k».proof.Proof.RefLayers
public import proofs.«01_k».proof.Proof.First
public import Idealize.ShloMosaic.Lib.Routing.OpsPair
public import Idealize.ShloMosaic.Lib.Routing.OpsSet

/-! # The reference's two results at the ideal values

The softmax of a token's scores, the expert the reference picks, which is the first at which the softmax is largest, the
table with a one there, and the sum of that table less the softmax with the softmax. -/

@[expose] public section

set_option maxRecDepth 4096

noncomputable section

namespace Cert.ReferenceIdeal.Gate

open Cert.ReferenceIdeal.Gen
open Idealize.ShloMosaic Idealize.ShloMosaic.TcCoe
open Idealize.ShloMosaic.ValueIdx
open scoped BigOperators

/-! ## The softmax -/

theorem reduces_experts : S2048x8x1.Reduces [1] S2048x1 := by decide

/-- A token's entry at an expert, under the token's index. -/
theorem lift_expert (q : Fin 2048) (e : Fin 8) : reduces_experts.lift (ix2 q 0) e = ix3 q e 0 := by
  funext a; fin_cases a <;> rfl

/-- A value per token, read at every expert. -/
theorem perToken_apply (r : FVec Ideal S2048x1 .f32) (q : Fin 2048) (e : Fin 8) : perToken r (ix3 q e 0) = r (ix2 q 0) := by
  unfold perToken
  exact (broadcastInDim_apply _ _ _ _ (ix3 q 0 0) fun a => by fin_cases a <;> rfl).trans
    (broadcastInDim_apply _ _ _ _ (ix2 q 0) fun a => by fin_cases a <;> rfl)

/-- A token's largest score. -/
theorem rowMax_apply (y : FVec Ideal S2048x8x1 .f32) (q : Fin 2048) : rowMax y (ix2 q 0) = Cert.Gate.top fun e => y (ix3 q e 0) := by
  unfold rowMax
  show max (broadcastInDim S2048x1 ![] bcast_S_S2048x1 (constant (F := Ideal) S_ .f32 0xFF800000#32) (ix2 q 0))
    (Host.reduce (max : EReal → EReal → EReal) y (constant (F := Ideal) S_ .f32 0xFF800000#32) reducesTo_S2048x8x1_S2048x1_d1 h_S_ (ix2 q 0)) = _
  rw [broadcastInDim_scalar_apply, Host.reduce_eq_fold_single max y _ _ reduces_experts]
  show max (Ideal.ofBits .f32 0xFF800000#32) (Finset.fold max (Ideal.ofBits .f32 0xFF800000#32) _ _) = _
  rw [Cert.Gate.ofBits_neg_inf, max_eq_right bot_le]
  exact congrArg (fun h => Finset.fold max ⊥ h Finset.univ) (funext fun e => congrArg y (lift_expert q e))

/-- An exponential. -/
theorem exps_apply (y : FVec Ideal S2048x8x1 .f32) (q : Fin 2048) (e : Fin 8) :
    exps y (ix3 q e 0) = Ideal.exp (y (ix3 q e 0) - Cert.Gate.top fun e => y (ix3 q e 0)) := by
  show Ideal.exp (y (ix3 q e 0) - perToken (rowMax y) (ix3 q e 0)) = _
  rw [perToken_apply, rowMax_apply]

/-- The softmax of a token's scores. -/
theorem soft_apply (y : FVec Ideal S2048x8x1 .f32) (q : Fin 2048) (e : Fin 8) :
    soft y (ix3 q e 0) = Cert.Gate.softmax (fun e => y (ix3 q e 0)) e := by
  unfold soft
  rw [hostDivf_apply, perToken_apply, hostReduceAdd_apply, Ideal.hostReduceAdd_single _ reduces_experts, exps_apply]
  refine congrArg (Ideal.div _) ?_
  show Ideal.ofBits .f32 0x00000000#32 + _ = _
  rw [Ideal.ofBits_zero_f32, zero_add]
  exact Finset.sum_congr rfl fun e _ => (congrArg (exps y) (lift_expert q e)).trans (exps_apply y q e)

/-- The table of it. -/
theorem table_apply (y : FVec Ideal S2048x8x1 .f32) (q : Fin 2048) (e : Fin 8) :
    table y (ix2 q e) = Cert.Gate.softmax (fun e => y (ix3 q e 0)) e := by
  unfold table
  refine (shapeCast_apply _ _ _ (ix3 q e 0) ?_).trans (soft_apply y q e)
  rw [Shape.rowMajor_val_two, Shape.rowMajor_val_three]
  show (q.val * 8 + e.val) * 1 + 0 = q.val * 8 + e.val
  omega

/-! ## The expert picked -/

theorem reduces_table : S2048x8.Reduces [1] S2048 := by decide

/-- A token's entry of the table, under the token's index. -/
theorem lift_entry (q : Fin 2048) (e : Fin 8) : reduces_table.lift (ix1 q) e = ix2 q e := by
  funext a; fin_cases a <;> rfl

/-- The reference's choice between two pairs keeps one that is no worse than either. -/
theorem keeps : Cert.Gate.Keeps (reducer_argmax_f32_i32 (F := Ideal)) := by
  intro a b
  obtain ⟨a1, a2⟩ := a
  obtain ⟨b1, b2⟩ := b
  have hslt : (IntOp.cmpi .slt a2 b2) = BitVec.ofBool (decide (a2.toInt < b2.toInt)) := by
    show BitVec.ofBool (a2.slt b2) = _
    exact congrArg BitVec.ofBool (Bool.eq_iff_iff.mpr (by rw [BitVec.slt_iff_toInt_lt, decide_eq_true_iff]))
  have hg : reducer_argmax_f32_i32 (F := Ideal) (a1, a2) (b1, b2)
      = (if b1 < a1 then a1 else b1, if b1 < a1 ∨ (a1 = b1 ∧ a2.toInt < b2.toInt) then a2 else b2) := by
    show (Scalar.select (BitVec.ofBool (decide (b1 < a1)) ||| BitVec.ofBool (decide (a1 ≠ a1))) a1 b1,
      Scalar.select ((BitVec.ofBool (decide (b1 < a1)) ||| BitVec.ofBool (decide (a1 ≠ a1)))
        ||| (BitVec.ofBool (decide (a1 = b1)) &&& IntOp.cmpi .slt a2 b2)) a2 b2) = _
    rw [hslt]
    by_cases h : b1 < a1 <;> by_cases h' : a1 = b1 <;> by_cases h'' : a2.toInt < b2.toInt <;>
      simp [h, h', h'', Scalar.select]
  rw [hg]
  by_cases h : b1 < a1
  · rw [if_pos h, if_pos (Or.inl h)]
    exact ⟨Or.inl rfl, Cert.Gate.Beats.refl _, Or.inl h⟩
  · rw [if_neg h]
    by_cases h' : a1 = b1 ∧ a2.toInt < b2.toInt
    · rw [if_pos (Or.inr h'), ← h'.1]
      exact ⟨Or.inl rfl, Cert.Gate.Beats.refl _, Or.inr ⟨rfl, h'.2.le⟩⟩
    · rw [if_neg fun h'' => h''.elim h h']
      refine ⟨Or.inr rfl, ?_, Cert.Gate.Beats.refl _⟩
      rcases lt_or_eq_of_le (not_lt.mp h) with hlt | heq
      · exact Or.inl hlt
      · exact Or.inr ⟨heq, not_lt.mp fun hlt => h' ⟨heq, hlt⟩⟩

/-- The reference picks the first expert at which the token's entries are largest. -/
theorem pick_apply (p : FVec Ideal S2048x8 .f32) (q : Fin 2048) {f : Fin 8} (hf : Cert.Gate.IsFirst (fun e => p (ix2 q e)) f) :
    pick p (ix1 q) = BitVec.ofNat 32 f.val := by
  unfold pick
  rw [Ideal.argReduce_eq_reduce2, Host.reduce2_eq_foldl_fiber]
  show (List.foldl _ (Ideal.ofBits .f32 0xFF800000#32, 0#32) _).2 = _
  rw [Cert.Gate.ofBits_neg_inf]
  refine Cert.Gate.best_position keeps hf _ fun r => ?_
  unfold Host.argReduceFiber
  simp only [List.mem_map, List.mem_filter, List.mem_finRange, true_and, decide_eq_true_eq]
  constructor
  · rintro ⟨n, hn, rfl⟩
    generalize S2048x8.rowMajor.symm n = i at hn ⊢
    have hi : i = ix2 q (i 1) := by
      have h0 := congrArg (fun j : S2048.Idx => (j 0).val) hn
      funext a
      fin_cases a
      · exact Fin.ext h0
      · rfl
    exact ⟨i 1, Prod.ext (congrArg p hi) rfl⟩
  · rintro ⟨e, rfl⟩
    refine ⟨S2048x8.rowMajor (ix2 q e), ?_, ?_⟩
    · rw [Equiv.symm_apply_apply]; funext a; fin_cases a; rfl
    · rw [Equiv.symm_apply_apply]; rfl

/-! ## The table with the ones -/

/-- A small position isn't counted from the end. -/
theorem wrapped_apply (n : BitVec 32) (k : IVec S2048 32) (q : Fin 2048) (h : (k (ix1 q)).toNat < 2 ^ 31) :
    wrapped n k (ix1 q) = k (ix1 q) := by
  show Scalar.select (IntOp.cmpi .slt (k (ix1 q)) (broadcastInDim S2048 ![] bcast_S_S2048 (constantI S_ 32 0#32) (ix1 q)))
    _ (k (ix1 q)) = _
  rw [broadcastInDim_scalar_apply]
  exact Routing.wrap_of_lt _ _ h

/-- Row `q` of the places is the token's number -/
theorem places_token (k : IVec S2048 32) (q : Fin 2048) : places k (ix2 q 0) = BitVec.ofNat 32 q.val := by
  unfold places
  refine (concatenate_pair_apply_left (t := S2048x2) (s₁ := S2048x1) (s₂ := S2048x1) 1 _ _ _ (ix2 q 0) rfl (ix2 q 0) fun b => by fin_cases b <;> rfl).trans ?_
  refine (broadcastInDim_apply _ _ _ _ (ix1 q) fun a => by fin_cases a; rfl).trans ?_
  refine wrapped_apply _ _ _ ?_
  show (BitVec.ofNat 32 q.val).toNat < _
  rw [BitVec.toNat_ofNat]
  omega

/-- and its expert. -/
theorem places_expert (k : IVec S2048 32) (q : Fin 2048) (f : Fin 8) (hk : k (ix1 q) = BitVec.ofNat 32 f.val) :
    places k (ix2 q 1) = BitVec.ofNat 32 f.val := by
  unfold places
  refine (concatenate_pair_apply_right (t := S2048x2) (s₁ := S2048x1) (s₂ := S2048x1) 1 _ _ _ (ix2 q 1) rfl rfl (ix2 q 0) (fun b hb => ?_) rfl).trans ?_
  · fin_cases b
    · rfl
    · exact absurd rfl hb
  · refine (broadcastInDim_apply _ _ _ _ (ix1 q) fun a => by fin_cases a; rfl).trans ?_
    rw [wrapped_apply _ _ _ (by rw [hk, BitVec.toNat_ofNat]; omega), hk]

/-- An update lands where its row of the places says. -/
theorem lands (idx : IVec S2048x2 32) (k q : Fin 2048) (e : Fin 8) :
    scatter_S2048x8_S2048x2_S2048_n_01_01_1.resultIdx? (ix1 k) idx = some (ix2 q e)
      ↔ (idx (ix2 k 0)).toInt = q.val ∧ (idx (ix2 k 1)).toInt = e.val := by
  rw [Routing.resultIdx?_ix2]
  have s0 : scatter_S2048x8_S2048x2_S2048_n_01_01_1.start (ix1 k) idx 0 = (idx (ix2 k 0)).toInt :=
    congrArg (fun i => (idx i).toInt) (funext fun a => by fin_cases a <;> rfl)
  have s1 : scatter_S2048x8_S2048x2_S2048_n_01_01_1.start (ix1 k) idx 1 = (idx (ix2 k 1)).toInt :=
    congrArg (fun i => (idx i).toInt) (funext fun a => by fin_cases a <;> rfl)
  have w0 : scatter_S2048x8_S2048x2_S2048_n_01_01_1.window (ix1 k) 0 = 0 := rfl
  have w1 : scatter_S2048x8_S2048x2_S2048_n_01_01_1.window (ix1 k) 1 = 0 := rfl
  rw [s0, s1, w0, w1, Nat.cast_zero, add_zero, add_zero]

/-- The table has its ones at the picked experts. -/
theorem oneAt_apply (k : IVec S2048 32) (g : Fin 2048 → Fin 8) (hk : ∀ q, k (ix1 q) = BitVec.ofNat 32 (g q).val) (q : Fin 2048) (e : Fin 8) :
    oneAt (F := Ideal) k (ix2 q e) = if e = g q then 1 else 0 := by
  have htok : ∀ q : Fin 2048, (places k (ix2 q 0)).toInt = q.val := fun q => by
    rw [places_token]; exact StableHlo.Predicate.toInt_ofNat_small _ (by omega)
  have hexp : ∀ q : Fin 2048, (places k (ix2 q 1)).toInt = (g q).val := fun q => by
    rw [places_expert k q (g q) (hk q)]; exact Cert.Gate.toInt_position (g q)
  unfold oneAt
  by_cases h : e = g q
  · rw [if_pos h]
    refine Routing.scatter_set_hit _ _ _ _ _ _ (fun i _ => ?_) (ix1 q) ((lands _ _ _ _).mpr ⟨htok q, by rw [hexp, h]⟩)
    rw [broadcastInDim_scalar_apply]
    exact Ideal.ofBits_one_f32
  · rw [if_neg h]
    refine (Routing.scatter_set_miss _ _ _ _ _ fun i hi => h ?_).trans ?_
    · obtain ⟨j, rfl⟩ : ∃ j : Fin 2048, i = ix1 j := ⟨i 0, eq_ix1 i⟩
      obtain ⟨h0, h1⟩ := (lands _ _ _ _).mp hi
      rw [htok] at h0
      rw [hexp] at h1
      obtain rfl : j = q := Fin.ext (by exact_mod_cast h0)
      exact Fin.ext (by exact_mod_cast h1.symm)
    · rw [broadcastInDim_scalar_apply]
      exact Ideal.ofBits_zero_f32

/-- The table with the ones is the one at the first largest entry of each token. -/
theorem oneAt_pick (p : FVec Ideal S2048x8 .f32) (q : Fin 2048) (e : Fin 8) :
    oneAt (F := Ideal) (pick p) (ix2 q e) = Cert.Gate.oneHot (fun e => p (ix2 q e)) e := by
  choose g hg using fun q : Fin 2048 => Cert.Gate.exists_first fun e => p (ix2 q e)
  rw [oneAt_apply (pick p) g (fun q => pick_apply p q (hg q)) q e, Cert.Gate.oneHot_eq (hg q)]

/-- The straight-through sum. -/
theorem through_apply (p : FVec Ideal S2048x8 .f32) (q : Fin 2048) (e : Fin 8) :
    through p (ix2 q e) = Cert.Gate.oneHot (fun e => p (ix2 q e)) e - p (ix2 q e) + p (ix2 q e) := by
  show oneAt (F := Ideal) (pick p) (ix2 q e) - p (ix2 q e) + p (ix2 q e) = _
  rw [oneAt_pick]

/-- A last axis of one position changes nothing. -/
theorem withUnit_apply (p : FVec Ideal S2048x8 .f32) (q : Fin 2048) (e : Fin 8) (u : Fin 1) : withUnit p (ix3 q e u) = p (ix2 q e) :=
  broadcastInDim_apply _ _ _ _ (ix2 q e) fun a => by fin_cases a <;> rfl

end Cert.ReferenceIdeal.Gate
-- ==== Proof.Equation.lean ====
module

public import proofs.«01_k».proof.Proof.Conditions
public import proofs.«01_k».proof.Proof.RefSoft

/-! # The kernel's results are the reference's

From memories that agree on the arguments, the kernel's soft result is the reference's wherever the temperature isn't zero,
and its hard result is the reference's straight-through sum wherever all arguments are finite as well. -/

@[expose] public section

set_option maxRecDepth 4096

noncomputable section

namespace Cert.Equation

open Idealize.ShloMosaic Idealize.ShloMosaic.TcCoe
open Idealize.ShloMosaic.ValueIdx
open Cert.KernelIdeal.Gate (returned returned_apply softArray hardArray softArray_apply hardArray_apply score temperature)
open Cert.ReferenceIdeal.Gate (withUnit withUnit_apply table table_apply through through_apply scaledOf scaled_apply)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories hold the same arguments on core `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-- The reference's scaled logits are the kernel's scores. -/
theorem scores_eq (c : Dev Cert.KernelIdeal.nD) (h : Agree m m' c) (q : Fin 2048) (e : Fin 8) :
    scaledOf (F := Ideal) m' c (ix3 q e 0) = score m c q e := by
  obtain ⟨h0, h1, h2, h3, h4, h5, h6, h7⟩ := h
  unfold scaledOf
  rw [scaled_apply, h0, h1, h2, h3, h4, h5, h6, h7]
  rfl

/-- The table the reference makes of them is their softmax. -/
theorem table_eq (c : Dev Cert.KernelIdeal.nD) (h : Agree m m' c) (q : Fin 2048) (e : Fin 8) :
    table (scaledOf (F := Ideal) m' c) (ix2 q e) = Cert.Gate.softmax (score m c q) e :=
  (table_apply _ q e).trans (congrArg (fun s => Cert.Gate.softmax s e) (funext fun e => scores_eq m m' c h q e))

/-- The soft results are equal where the temperature isn't zero. -/
theorem soft_eq (c : Dev Cert.KernelIdeal.nD) (h : Agree m m' c) (ht : temperature m c ≠ 0) :
    withUnit (table (scaledOf (F := Ideal) m' c)) = returned (softArray m c) := by
  funext i
  obtain ⟨q, e, u, rfl⟩ : ∃ (q : Fin 2048) (e : Fin 8) (u : Fin 1), i = ix3 q e u := ⟨i 0, i 1, i 2, eq_ix3 i⟩
  rw [withUnit_apply, returned_apply, softArray_apply m c ht, table_eq m m' c h]

/-- The hard results are equal where the arguments are finite too. -/
theorem hard_eq (c : Dev Cert.KernelIdeal.nD) (h : Agree m m' c)
    (hp : Cert.Pre_KernelIdeal_finite_arguments (hPre_finite_arguments := Cert.Conditions.finite_facts) m) :
    withUnit (through (table (scaledOf (F := Ideal) m' c))) = returned (hardArray m c) := by
  funext i
  obtain ⟨q, e, u, rfl⟩ : ∃ (q : Fin 2048) (e : Fin 8) (u : Fin 1), i = ix3 q e u := ⟨i 0, i 1, i 2, eq_ix3 i⟩
  rw [withUnit_apply, returned_apply, hardArray_apply m c (Cert.Conditions.finite_temperature_ne_zero m hp c), through_apply]
  simp only [table_eq m m' c h]
  exact Cert.Gate.sub_add_back _ (Cert.Conditions.softmax_real m hp c q e)

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Ref
public import proofs.«01_k».proof.Proof.Same
public import proofs.«01_k».proof.Proof.Value
public import proofs.«01_k».proof.Proof.Equation
public import Idealize.ShloMosaic.Adequacy
public import Idealize.ShloMosaic.Init

@[expose] public section

noncomputable section

namespace Cert.Proof

open Idealize.ShloMosaic Idealize.SL.Sem

/-- Both results are the reference's from finite arguments and a temperature that isn't zero. -/
theorem both_results : Cert.algebraic_KernelIdeal_ReferenceIdeal_pre_finite_arguments (hKernelIdeal := Cert.KernelIdeal.Gen.facts)
    (hReferenceIdeal := Cert.ReferenceIdeal.Gen.facts) (hPre_finite_arguments := Cert.Conditions.finite_facts) :=
  fun m g m' g' hp h => ⟨fun c => Cert.KernelIdeal.Gate.returned (Cert.KernelIdeal.Gate.softArray m c),
    fun c => Cert.KernelIdeal.Gate.returned (Cert.KernelIdeal.Gate.hardArray m c), Cert.KernelIdeal.Gate.run_value m g,
    (θ_run _ _ _).mono (fun _ hr c =>
      ⟨(hr c).1.trans (Cert.Equation.soft_eq m m' c (h c) (Cert.Conditions.finite_temperature_ne_zero m hp c)),
        (hr c).2.1.trans (Cert.Equation.hard_eq m m' c (h c) hp), (hr c).2.2⟩) (Cert.ReferenceIdeal.Gate.run m' g')⟩

/-- The soft result is the reference's wherever the temperature isn't zero, whatever the other arguments hold. The mask leaves
    the hard result out. -/
theorem soft_result : Cert.algebraic_KernelIdeal_ReferenceIdeal_on_soft_everywhere_pre_nonzero_temperature
    (hKernelIdeal := Cert.KernelIdeal.Gen.facts) (hReferenceIdeal := Cert.ReferenceIdeal.Gen.facts)
    (hPre_nonzero_temperature := Cert.Conditions.nonzero_facts) (hOn_soft_everywhere := Cert.Conditions.mask_facts) :=
  fun m g m' g' hp h => ⟨fun c => Cert.KernelIdeal.Gate.returned (Cert.KernelIdeal.Gate.softArray m c),
    fun c => Cert.KernelIdeal.Gate.returned (Cert.KernelIdeal.Gate.hardArray m c),
    (θ_run _ _ _).mono (fun _ hr c => ⟨fun i _ => congrFun (hr c).1 i, fun i _ => congrFun (hr c).2.1 i, (hr c).2.2⟩)
      (Cert.KernelIdeal.Gate.run_value m g),
    (θ_run _ _ _).mono (fun _ hr c =>
      ⟨fun i _ => congrFun ((hr c).1.trans (Cert.Equation.soft_eq m m' c (h c) (Cert.Conditions.temperature_ne_zero m hp c))) i,
        fun i hi => absurd (show (0#1 : BitVec 1) = 1#1 from hi) (by decide), (hr c).2.2⟩) (Cert.ReferenceIdeal.Gate.run m' g')⟩

/-- All the claims. -/
theorem claim : Cert.Claim :=
  ⟨Cert.Kernel.Gen.facts, Cert.KernelIdeal.Gen.facts, Cert.ReferenceIdeal.Gen.facts, Cert.Conditions.finite_facts,
    Cert.Conditions.nonzero_facts, Cert.Conditions.mask_facts, Cert.Kernel.Gate.frame,
    fun m ρ _ => Cert.KernelIdeal.Gate.frame m ρ, fun m ρ _ => Cert.KernelIdeal.Gate.frame m ρ,
    fun m ρ _ => Cert.KernelIdeal.Gate.frame m ρ, fun m ρ _ => Cert.ReferenceIdeal.Gate.frame m ρ,
    fun m ρ _ => Cert.ReferenceIdeal.Gate.frame m ρ, fun m ρ _ => Cert.ReferenceIdeal.Gate.frame m ρ, trivial,
    both_results, soft_result⟩

end Cert.Proof

end
